-- ==== Defs.lean ====
def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_Coords (m : (ℓ : Loc Cert.Coords.nD Cert.Coords.τ Cert.Coords.sig) → Buf (Elt Bits) ℓ) : Prop :=
  True

def Pre_CoordsIdeal (m : (ℓ : Loc Cert.CoordsIdeal.nD Cert.CoordsIdeal.τ Cert.CoordsIdeal.sig) → Buf (Elt Ideal) ℓ) : Prop :=
  True

def Pre_CoordsIdeal_finite_times_and_time_weights [hPre_finite_times_and_time_weights : Cert.Pre_finite_times_and_time_weights.Facts] (m : (ℓ : Loc Cert.CoordsIdeal.nD Cert.CoordsIdeal.τ Cert.CoordsIdeal.sig) → Buf (Elt Ideal) ℓ) : Prop :=
  ∀ c : Dev Cert.CoordsIdeal.nD,
    (Cert.Pre_finite_times_and_time_weights.fn (F := Ideal) (m ((c.tc : Thread Cert.CoordsIdeal.nD Cert.CoordsIdeal.τ).loc Cert.CoordsIdeal.main_arg0)) (m ((c.tc : Thread Cert.CoordsIdeal.nD Cert.CoordsIdeal.τ).loc Cert.CoordsIdeal.main_arg1)) (m ((c.tc : Thread Cert.CoordsIdeal.nD Cert.CoordsIdeal.τ).loc Cert.CoordsIdeal.main_arg2)) (m ((c.tc : Thread Cert.CoordsIdeal.nD Cert.CoordsIdeal.τ).loc Cert.CoordsIdeal.main_arg3)) (m ((c.tc : Thread Cert.CoordsIdeal.nD Cert.CoordsIdeal.τ).loc Cert.CoordsIdeal.main_arg4)) (m ((c.tc : Thread Cert.CoordsIdeal.nD Cert.CoordsIdeal.τ).loc Cert.CoordsIdeal.main_arg5))).1 = (fun _ => 1#1)
    ∧ (Cert.Pre_finite_times_and_time_weights.fn (F := Ideal) (m ((c.tc : Thread Cert.CoordsIdeal.nD Cert.CoordsIdeal.τ).loc Cert.CoordsIdeal.main_arg0)) (m ((c.tc : Thread Cert.CoordsIdeal.nD Cert.CoordsIdeal.τ).loc Cert.CoordsIdeal.main_arg1)) (m ((c.tc : Thread Cert.CoordsIdeal.nD Cert.CoordsIdeal.τ).loc Cert.CoordsIdeal.main_arg2)) (m ((c.tc : Thread Cert.CoordsIdeal.nD Cert.CoordsIdeal.τ).loc Cert.CoordsIdeal.main_arg3)) (m ((c.tc : Thread Cert.CoordsIdeal.nD Cert.CoordsIdeal.τ).loc Cert.CoordsIdeal.main_arg4)) (m ((c.tc : Thread Cert.CoordsIdeal.nD Cert.CoordsIdeal.τ).loc Cert.CoordsIdeal.main_arg5))).2 = (fun _ => 1#1)

def Pre_CoordsRefIdeal (m : (ℓ : Loc Cert.CoordsRefIdeal.nD Cert.CoordsRefIdeal.τ Cert.CoordsRefIdeal.sig) → Buf (Elt Ideal) ℓ) : Prop :=
  True

def Pre_CoordsRefIdeal_finite_times_and_time_weights [hPre_finite_times_and_time_weights : Cert.Pre_finite_times_and_time_weights.Facts] (m : (ℓ : Loc Cert.CoordsRefIdeal.nD Cert.CoordsRefIdeal.τ Cert.CoordsRefIdeal.sig) → Buf (Elt Ideal) ℓ) : Prop :=
  ∀ c : Dev Cert.CoordsRefIdeal.nD,
    (Cert.Pre_finite_times_and_time_weights.fn (F := Ideal) (m ((c.tc : Thread Cert.CoordsRefIdeal.nD Cert.CoordsRefIdeal.τ).loc Cert.CoordsRefIdeal.main_arg0)) (m ((c.tc : Thread Cert.CoordsRefIdeal.nD Cert.CoordsRefIdeal.τ).loc Cert.CoordsRefIdeal.main_arg1)) (m ((c.tc : Thread Cert.CoordsRefIdeal.nD Cert.CoordsRefIdeal.τ).loc Cert.CoordsRefIdeal.main_arg2)) (m ((c.tc : Thread Cert.CoordsRefIdeal.nD Cert.CoordsRefIdeal.τ).loc Cert.CoordsRefIdeal.main_arg3)) (m ((c.tc : Thread Cert.CoordsRefIdeal.nD Cert.CoordsRefIdeal.τ).loc Cert.CoordsRefIdeal.main_arg4)) (m ((c.tc : Thread Cert.CoordsRefIdeal.nD Cert.CoordsRefIdeal.τ).loc Cert.CoordsRefIdeal.main_arg5))).1 = (fun _ => 1#1)
    ∧ (Cert.Pre_finite_times_and_time_weights.fn (F := Ideal) (m ((c.tc : Thread Cert.CoordsRefIdeal.nD Cert.CoordsRefIdeal.τ).loc Cert.CoordsRefIdeal.main_arg0)) (m ((c.tc : Thread Cert.CoordsRefIdeal.nD Cert.CoordsRefIdeal.τ).loc Cert.CoordsRefIdeal.main_arg1)) (m ((c.tc : Thread Cert.CoordsRefIdeal.nD Cert.CoordsRefIdeal.τ).loc Cert.CoordsRefIdeal.main_arg2)) (m ((c.tc : Thread Cert.CoordsRefIdeal.nD Cert.CoordsRefIdeal.τ).loc Cert.CoordsRefIdeal.main_arg3)) (m ((c.tc : Thread Cert.CoordsRefIdeal.nD Cert.CoordsRefIdeal.τ).loc Cert.CoordsRefIdeal.main_arg4)) (m ((c.tc : Thread Cert.CoordsRefIdeal.nD Cert.CoordsRefIdeal.τ).loc Cert.CoordsRefIdeal.main_arg5))).2 = (fun _ => 1#1)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2)
      ∧ r.2.mem ((c.tc : Thread Cert.Values.nD Cert.Values.τ).loc Cert.Values.main_arg3) = m ((c.tc : Thread Cert.Values.nD Cert.Values.τ).loc Cert.Values.main_arg3)
      ∧ r.2.mem ((c.tc : Thread Cert.Values.nD Cert.Values.τ).loc Cert.Values.main_arg4) = m ((c.tc : Thread Cert.Values.nD Cert.Values.τ).loc Cert.Values.main_arg4))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2)
      ∧ r.2.mem ((c.tc : Thread Cert.ValuesRefIdeal.nD Cert.ValuesRefIdeal.τ).loc Cert.ValuesRefIdeal.main_arg3) = m ((c.tc : Thread Cert.ValuesRefIdeal.nD Cert.ValuesRefIdeal.τ).loc Cert.ValuesRefIdeal.main_arg3)
      ∧ r.2.mem ((c.tc : Thread Cert.ValuesRefIdeal.nD Cert.ValuesRefIdeal.τ).loc Cert.ValuesRefIdeal.main_arg4) = m ((c.tc : Thread Cert.ValuesRefIdeal.nD Cert.ValuesRefIdeal.τ).loc Cert.ValuesRefIdeal.main_arg4))
      ∧ r.2.sem = fun _ => 0)

def quiescent_Coords [hCoords : Cert.Coords.Facts] : Prop :=
  ∀ (m : (ℓ : Loc Cert.Coords.nD Cert.Coords.τ Cert.Coords.sig) → Buf (Elt Bits) ℓ) (g : Dev Cert.Coords.nD → PrngReg), Pre_Coords m →
    θ_run (Cert.Coords.defs (F := Bits)) (onTc (τ := Cert.Coords.τ) (Cert.Coords.main (F := Bits))) ⟨m, fun _ => 0, g⟩ (fun r => (∀ c : Dev Cert.Coords.nD,
      r.2.mem ((c.tc : Thread Cert.Coords.nD Cert.Coords.τ).loc Cert.Coords.main_arg0) = m ((c.tc : Thread Cert.Coords.nD Cert.Coords.τ).loc Cert.Coords.main_arg0)
      ∧ r.2.mem ((c.tc : Thread Cert.Coords.nD Cert.Coords.τ).loc Cert.Coords.main_arg1) = m ((c.tc : Thread Cert.Coords.nD Cert.Coords.τ).loc Cert.Coords.main_arg1)
      ∧ r.2.mem ((c.tc : Thread Cert.Coords.nD Cert.Coords.τ).loc Cert.Coords.main_arg2) = m ((c.tc : Thread Cert.Coords.nD Cert.Coords.τ).loc Cert.Coords.main_arg2)
      ∧ r.2.mem ((c.tc : Thread Cert.Coords.nD Cert.Coords.τ).loc Cert.Coords.main_arg3) = m ((c.tc : Thread Cert.Coords.nD Cert.Coords.τ).loc Cert.Coords.main_arg3)
      ∧ r.2.mem ((c.tc : Thread Cert.Coords.nD Cert.Coords.τ).loc Cert.Coords.main_arg4) = m ((c.tc : Thread Cert.Coords.nD Cert.Coords.τ).loc Cert.Coords.main_arg4)
      ∧ r.2.mem ((c.tc : Thread Cert.Coords.nD Cert.Coords.τ).loc Cert.Coords.main_arg5) = m ((c.tc : Thread Cert.Coords.nD Cert.Coords.τ).loc Cert.Coords.main_arg5))
      ∧ r.2.sem = fun _ => 0)

def quiescent_CoordsIdeal [hCoordsIdeal : Cert.CoordsIdeal.Facts] : Prop :=
  ∀ (m : (ℓ : Loc Cert.CoordsIdeal.nD Cert.CoordsIdeal.τ Cert.CoordsIdeal.sig) → Buf (Elt Ideal) ℓ) (g : Dev Cert.CoordsIdeal.nD → PrngReg), Pre_CoordsIdeal m →
    θ_run (Cert.CoordsIdeal.defs (F := Ideal)) (onTc (τ := Cert.CoordsIdeal.τ) (Cert.CoordsIdeal.main (F := Ideal))) ⟨m, fun _ => 0, g⟩ (fun r => (∀ c : Dev Cert.CoordsIdeal.nD,
      r.2.mem ((c.tc : Thread Cert.CoordsIdeal.nD Cert.CoordsIdeal.τ).loc Cert.CoordsIdeal.main_arg0) = m ((c.tc : Thread Cert.CoordsIdeal.nD Cert.CoordsIdeal.τ).loc Cert.CoordsIdeal.main_arg0)
      ∧ r.2.mem ((c.tc : Thread Cert.CoordsIdeal.nD Cert.CoordsIdeal.τ).loc Cert.CoordsIdeal.main_arg1) = m ((c.tc : Thread Cert.CoordsIdeal.nD Cert.CoordsIdeal.τ).loc Cert.CoordsIdeal.main_arg1)
      ∧ r.2.mem ((c.tc : Thread Cert.CoordsIdeal.nD Cert.CoordsIdeal.τ).loc Cert.CoordsIdeal.main_arg2) = m ((c.tc : Thread Cert.CoordsIdeal.nD Cert.CoordsIdeal.τ).loc Cert.CoordsIdeal.main_arg2)
      ∧ r.2.mem ((c.tc : Thread Cert.CoordsIdeal.nD Cert.CoordsIdeal.τ).loc Cert.CoordsIdeal.main_arg3) = m ((c.tc : Thread Cert.CoordsIdeal.nD Cert.CoordsIdeal.τ).loc Cert.CoordsIdeal.main_arg3)
      ∧ r.2.mem ((c.tc : Thread Cert.CoordsIdeal.nD Cert.CoordsIdeal.τ).loc Cert.CoordsIdeal.main_arg4) = m ((c.tc : Thread Cert.CoordsIdeal.nD Cert.CoordsIdeal.τ).loc Cert.CoordsIdeal.main_arg4)
      ∧ r.2.mem ((c.tc : Thread Cert.CoordsIdeal.nD Cert.CoordsIdeal.τ).loc Cert.CoordsIdeal.main_arg5) = m ((c.tc : Thread Cert.CoordsIdeal.nD Cert.CoordsIdeal.τ).loc Cert.CoordsIdeal.main_arg5))
      ∧ r.2.sem = fun _ => 0)

def quiescent_CoordsIdeal_pre_finite_times_and_time_weights [hCoordsIdeal : Cert.CoordsIdeal.Facts] [hPre_finite_times_and_time_weights : Cert.Pre_finite_times_and_time_weights.Facts] : Prop :=
  ∀ (m : (ℓ : Loc Cert.CoordsIdeal.nD Cert.CoordsIdeal.τ Cert.CoordsIdeal.sig) → Buf (Elt Ideal) ℓ) (g : Dev Cert.CoordsIdeal.nD → PrngReg), Pre_CoordsIdeal_finite_times_and_time_weights m →
    θ_run (Cert.CoordsIdeal.defs (F := Ideal)) (onTc (τ := Cert.CoordsIdeal.τ) (Cert.CoordsIdeal.main (F := Ideal))) ⟨m, fun _ => 0, g⟩ (fun r => (∀ c : Dev Cert.CoordsIdeal.nD,
      r.2.mem ((c.tc : Thread Cert.CoordsIdeal.nD Cert.CoordsIdeal.τ).loc Cert.CoordsIdeal.main_arg0) = m ((c.tc : Thread Cert.CoordsIdeal.nD Cert.CoordsIdeal.τ).loc Cert.CoordsIdeal.main_arg0)
      ∧ r.2.mem ((c.tc : Thread Cert.CoordsIdeal.nD Cert.CoordsIdeal.τ).loc Cert.CoordsIdeal.main_arg1) = m ((c.tc : Thread Cert.CoordsIdeal.nD Cert.CoordsIdeal.τ).loc Cert.CoordsIdeal.main_arg1)
      ∧ r.2.mem ((c.tc : Thread Cert.CoordsIdeal.nD Cert.CoordsIdeal.τ).loc Cert.CoordsIdeal.main_arg2) = m ((c.tc : Thread Cert.CoordsIdeal.nD Cert.CoordsIdeal.τ).loc Cert.CoordsIdeal.main_arg2)
      ∧ r.2.mem ((c.tc : Thread Cert.CoordsIdeal.nD Cert.CoordsIdeal.τ).loc Cert.CoordsIdeal.main_arg3) = m ((c.tc : Thread Cert.CoordsIdeal.nD Cert.CoordsIdeal.τ).loc Cert.CoordsIdeal.main_arg3)
      ∧ r.2.mem ((c.tc : Thread Cert.CoordsIdeal.nD Cert.CoordsIdeal.τ).loc Cert.CoordsIdeal.main_arg4) = m ((c.tc : Thread Cert.CoordsIdeal.nD Cert.CoordsIdeal.τ).loc Cert.CoordsIdeal.main_arg4)
      ∧ r.2.mem ((c.tc : Thread Cert.CoordsIdeal.nD Cert.CoordsIdeal.τ).loc Cert.CoordsIdeal.main_arg5) = m ((c.tc : Thread Cert.CoordsIdeal.nD Cert.CoordsIdeal.τ).loc Cert.CoordsIdeal.main_arg5))
      ∧ r.2.sem = fun _ => 0)

def quiescent_CoordsRefIdeal [hCoordsRefIdeal : Cert.CoordsRefIdeal.Facts] : Prop :=
  ∀ (m : (ℓ : Loc Cert.CoordsRefIdeal.nD Cert.CoordsRefIdeal.τ Cert.CoordsRefIdeal.sig) → Buf (Elt Ideal) ℓ) (g : Dev Cert.CoordsRefIdeal.nD → PrngReg), Pre_CoordsRefIdeal m →
    θ_run (Cert.CoordsRefIdeal.defs (F := Ideal)) (onTc (τ := Cert.CoordsRefIdeal.τ) (Cert.CoordsRefIdeal.main (F := Ideal))) ⟨m, fun _ => 0, g⟩ (fun r => (∀ c : Dev Cert.CoordsRefIdeal.nD,
      r.2.mem ((c.tc : Thread Cert.CoordsRefIdeal.nD Cert.CoordsRefIdeal.τ).loc Cert.CoordsRefIdeal.main_arg0) = m ((c.tc : Thread Cert.CoordsRefIdeal.nD Cert.CoordsRefIdeal.τ).loc Cert.CoordsRefIdeal.main_arg0)
      ∧ r.2.mem ((c.tc : Thread Cert.CoordsRefIdeal.nD Cert.CoordsRefIdeal.τ).loc Cert.CoordsRefIdeal.main_arg1) = m ((c.tc : Thread Cert.CoordsRefIdeal.nD Cert.CoordsRefIdeal.τ).loc Cert.CoordsRefIdeal.main_arg1)
      ∧ r.2.mem ((c.tc : Thread Cert.CoordsRefIdeal.nD Cert.CoordsRefIdeal.τ).loc Cert.CoordsRefIdeal.main_arg2) = m ((c.tc : Thread Cert.CoordsRefIdeal.nD Cert.CoordsRefIdeal.τ).loc Cert.CoordsRefIdeal.main_arg2)
      ∧ r.2.mem ((c.tc : Thread Cert.CoordsRefIdeal.nD Cert.CoordsRefIdeal.τ).loc Cert.CoordsRefIdeal.main_arg3) = m ((c.tc : Thread Cert.CoordsRefIdeal.nD Cert.CoordsRefIdeal.τ).loc Cert.CoordsRefIdeal.main_arg3)
      ∧ r.2.mem ((c.tc : Thread Cert.CoordsRefIdeal.nD Cert.CoordsRefIdeal.τ).loc Cert.CoordsRefIdeal.main_arg4) = m ((c.tc : Thread Cert.CoordsRefIdeal.nD Cert.CoordsRefIdeal.τ).loc Cert.CoordsRefIdeal.main_arg4)
      ∧ r.2.mem ((c.tc : Thread Cert.CoordsRefIdeal.nD Cert.CoordsRefIdeal.τ).loc Cert.CoordsRefIdeal.main_arg5) = m ((c.tc : Thread Cert.CoordsRefIdeal.nD Cert.CoordsRefIdeal.τ).loc Cert.CoordsRefIdeal.main_arg5))
      ∧ r.2.sem = fun _ => 0)

def quiescent_CoordsRefIdeal_pre_finite_times_and_time_weights [hCoordsRefIdeal : Cert.CoordsRefIdeal.Facts] [hPre_finite_times_and_time_weights : Cert.Pre_finite_times_and_time_weights.Facts] : Prop :=
  ∀ (m : (ℓ : Loc Cert.CoordsRefIdeal.nD Cert.CoordsRefIdeal.τ Cert.CoordsRefIdeal.sig) → Buf (Elt Ideal) ℓ) (g : Dev Cert.CoordsRefIdeal.nD → PrngReg), Pre_CoordsRefIdeal_finite_times_and_time_weights m →
    θ_run (Cert.CoordsRefIdeal.defs (F := Ideal)) (onTc (τ := Cert.CoordsRefIdeal.τ) (Cert.CoordsRefIdeal.main (F := Ideal))) ⟨m, fun _ => 0, g⟩ (fun r => (∀ c : Dev Cert.CoordsRefIdeal.nD,
      r.2.mem ((c.tc : Thread Cert.CoordsRefIdeal.nD Cert.CoordsRefIdeal.τ).loc Cert.CoordsRefIdeal.main_arg0) = m ((c.tc : Thread Cert.CoordsRefIdeal.nD Cert.CoordsRefIdeal.τ).loc Cert.CoordsRefIdeal.main_arg0)
      ∧ r.2.mem ((c.tc : Thread Cert.CoordsRefIdeal.nD Cert.CoordsRefIdeal.τ).loc Cert.CoordsRefIdeal.main_arg1) = m ((c.tc : Thread Cert.CoordsRefIdeal.nD Cert.CoordsRefIdeal.τ).loc Cert.CoordsRefIdeal.main_arg1)
      ∧ r.2.mem ((c.tc : Thread Cert.CoordsRefIdeal.nD Cert.CoordsRefIdeal.τ).loc Cert.CoordsRefIdeal.main_arg2) = m ((c.tc : Thread Cert.CoordsRefIdeal.nD Cert.CoordsRefIdeal.τ).loc Cert.CoordsRefIdeal.main_arg2)
      ∧ r.2.mem ((c.tc : Thread Cert.CoordsRefIdeal.nD Cert.CoordsRefIdeal.τ).loc Cert.CoordsRefIdeal.main_arg3) = m ((c.tc : Thread Cert.CoordsRefIdeal.nD Cert.CoordsRefIdeal.τ).loc Cert.CoordsRefIdeal.main_arg3)
      ∧ r.2.mem ((c.tc : Thread Cert.CoordsRefIdeal.nD Cert.CoordsRefIdeal.τ).loc Cert.CoordsRefIdeal.main_arg4) = m ((c.tc : Thread Cert.CoordsRefIdeal.nD Cert.CoordsRefIdeal.τ).loc Cert.CoordsRefIdeal.main_arg4)
      ∧ r.2.mem ((c.tc : Thread Cert.CoordsRefIdeal.nD Cert.CoordsRefIdeal.τ).loc Cert.CoordsRefIdeal.main_arg5) = m ((c.tc : Thread Cert.CoordsRefIdeal.nD Cert.CoordsRefIdeal.τ).loc Cert.CoordsRefIdeal.main_arg5))
      ∧ r.2.sem = fun _ => 0)

def preserves_Values_ValuesIdeal : Prop :=
  IdealRules.named_const.Statement Cert.ValuesIdeal.κ "sqrt_half" .f32 0x3F3504F3#32 (((Real.sqrt 2)⁻¹ : ℝ) : EReal)

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)
      ∧ m' ((c.tc : Thread Cert.ValuesRefIdeal.nD Cert.ValuesRefIdeal.τ).loc Cert.ValuesRefIdeal.main_arg2) = m ((c.tc : Thread Cert.ValuesIdeal.nD Cert.ValuesIdeal.τ).loc Cert.ValuesIdeal.main_arg2)
      ∧ m' ((c.tc : Thread Cert.ValuesRefIdeal.nD Cert.ValuesRefIdeal.τ).loc Cert.ValuesRefIdeal.main_arg3) = m ((c.tc : Thread Cert.ValuesIdeal.nD Cert.ValuesIdeal.τ).loc Cert.ValuesIdeal.main_arg3)
      ∧ m' ((c.tc : Thread Cert.ValuesRefIdeal.nD Cert.ValuesRefIdeal.τ).loc Cert.ValuesRefIdeal.main_arg4) = m ((c.tc : Thread Cert.ValuesIdeal.nD Cert.ValuesIdeal.τ).loc Cert.ValuesIdeal.main_arg4)) →
    ∃ (v0 : (c : Dev Cert.ValuesIdeal.nD) → Buf (Elt Ideal) ((c.tc : Thread Cert.ValuesIdeal.nD Cert.ValuesIdeal.τ).loc Cert.ValuesIdeal.main_v6)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v6) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
          ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
          ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v42) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1)
          ∧ r.2.mem ((c.tc : Thread Cert.ValuesRefIdeal.nD Cert.ValuesRefIdeal.τ).loc Cert.ValuesRefIdeal.main_arg2) = m' ((c.tc : Thread Cert.ValuesRefIdeal.nD Cert.ValuesRefIdeal.τ).loc Cert.ValuesRefIdeal.main_arg2)
          ∧ r.2.mem ((c.tc : Thread Cert.ValuesRefIdeal.nD Cert.ValuesRefIdeal.τ).loc Cert.ValuesRefIdeal.main_arg3) = m' ((c.tc : Thread Cert.ValuesRefIdeal.nD Cert.ValuesRefIdeal.τ).loc Cert.ValuesRefIdeal.main_arg3)
          ∧ r.2.mem ((c.tc : Thread Cert.ValuesRefIdeal.nD Cert.ValuesRefIdeal.τ).loc Cert.ValuesRefIdeal.main_arg4) = m' ((c.tc : Thread Cert.ValuesRefIdeal.nD Cert.ValuesRefIdeal.τ).loc Cert.ValuesRefIdeal.main_arg4))

def preserves_Coords_CoordsIdeal : Prop :=
  IdealRules.named_const.Statement Cert.CoordsIdeal.κ "sqrt_half" .f32 0x3F3504F3#32 (((Real.sqrt 2)⁻¹ : ℝ) : EReal)

def algebraic_CoordsIdeal_CoordsRefIdeal_pre_finite_times_and_time_weights [hCoordsIdeal : Cert.CoordsIdeal.Facts] [hCoordsRefIdeal : Cert.CoordsRefIdeal.Facts] [hPre_finite_times_and_time_weights : Cert.Pre_finite_times_and_time_weights.Facts] : Prop :=
  ∀ (m : (ℓ : Loc Cert.CoordsIdeal.nD Cert.CoordsIdeal.τ Cert.CoordsIdeal.sig) → Buf (Elt Ideal) ℓ) (g : Dev Cert.CoordsIdeal.nD → PrngReg)
    (m' : (ℓ : Loc Cert.CoordsRefIdeal.nD Cert.CoordsRefIdeal.τ Cert.CoordsRefIdeal.sig) → Buf (Elt Ideal) ℓ) (g' : Dev Cert.CoordsRefIdeal.nD → PrngReg), Pre_CoordsIdeal_finite_times_and_time_weights m →
    (∀ c : Dev Cert.CoordsIdeal.nD,
      m' ((c.tc : Thread Cert.CoordsRefIdeal.nD Cert.CoordsRefIdeal.τ).loc Cert.CoordsRefIdeal.main_arg0) = m ((c.tc : Thread Cert.CoordsIdeal.nD Cert.CoordsIdeal.τ).loc Cert.CoordsIdeal.main_arg0)
      ∧ m' ((c.tc : Thread Cert.CoordsRefIdeal.nD Cert.CoordsRefIdeal.τ).loc Cert.CoordsRefIdeal.main_arg1) = m ((c.tc : Thread Cert.CoordsIdeal.nD Cert.CoordsIdeal.τ).loc Cert.CoordsIdeal.main_arg1)
      ∧ m' ((c.tc : Thread Cert.CoordsRefIdeal.nD Cert.CoordsRefIdeal.τ).loc Cert.CoordsRefIdeal.main_arg2) = m ((c.tc : Thread Cert.CoordsIdeal.nD Cert.CoordsIdeal.τ).loc Cert.CoordsIdeal.main_arg2)
      ∧ m' ((c.tc : Thread Cert.CoordsRefIdeal.nD Cert.CoordsRefIdeal.τ).loc Cert.CoordsRefIdeal.main_arg3) = m ((c.tc : Thread Cert.CoordsIdeal.nD Cert.CoordsIdeal.τ).loc Cert.CoordsIdeal.main_arg3)
      ∧ m' ((c.tc : Thread Cert.CoordsRefIdeal.nD Cert.CoordsRefIdeal.τ).loc Cert.CoordsRefIdeal.main_arg4) = m ((c.tc : Thread Cert.CoordsIdeal.nD Cert.CoordsIdeal.τ).loc Cert.CoordsIdeal.main_arg4)
      ∧ m' ((c.tc : Thread Cert.CoordsRefIdeal.nD Cert.CoordsRefIdeal.τ).loc Cert.CoordsRefIdeal.main_arg5) = m ((c.tc : Thread Cert.CoordsIdeal.nD Cert.CoordsIdeal.τ).loc Cert.CoordsIdeal.main_arg5)) →
    ∃ (v0 : (c : Dev Cert.CoordsIdeal.nD) → Buf (Elt Ideal) ((c.tc : Thread Cert.CoordsIdeal.nD Cert.CoordsIdeal.τ).loc Cert.CoordsIdeal.main_v22)),
      θ_run (Cert.CoordsIdeal.defs (F := Ideal)) (onTc (τ := Cert.CoordsIdeal.τ) (Cert.CoordsIdeal.main (F := Ideal))) ⟨m, fun _ => 0, g⟩ (fun r => ∀ c : Dev Cert.CoordsIdeal.nD,
          r.2.mem ((c.tc : Thread Cert.CoordsIdeal.nD Cert.CoordsIdeal.τ).loc Cert.CoordsIdeal.main_v22) = v0 c
          ∧ r.2.mem ((c.tc : Thread Cert.CoordsIdeal.nD Cert.CoordsIdeal.τ).loc Cert.CoordsIdeal.main_arg0) = m ((c.tc : Thread Cert.CoordsIdeal.nD Cert.CoordsIdeal.τ).loc Cert.CoordsIdeal.main_arg0)
          ∧ r.2.mem ((c.tc : Thread Cert.CoordsIdeal.nD Cert.CoordsIdeal.τ).loc Cert.CoordsIdeal.main_arg1) = m ((c.tc : Thread Cert.CoordsIdeal.nD Cert.CoordsIdeal.τ).loc Cert.CoordsIdeal.main_arg1)
          ∧ r.2.mem ((c.tc : Thread Cert.CoordsIdeal.nD Cert.CoordsIdeal.τ).loc Cert.CoordsIdeal.main_arg2) = m ((c.tc : Thread Cert.CoordsIdeal.nD Cert.CoordsIdeal.τ).loc Cert.CoordsIdeal.main_arg2)
          ∧ r.2.mem ((c.tc : Thread Cert.CoordsIdeal.nD Cert.CoordsIdeal.τ).loc Cert.CoordsIdeal.main_arg3) = m ((c.tc : Thread Cert.CoordsIdeal.nD Cert.CoordsIdeal.τ).loc Cert.CoordsIdeal.main_arg3)
          ∧ r.2.mem ((c.tc : Thread Cert.CoordsIdeal.nD Cert.CoordsIdeal.τ).loc Cert.CoordsIdeal.main_arg4) = m ((c.tc : Thread Cert.CoordsIdeal.nD Cert.CoordsIdeal.τ).loc Cert.CoordsIdeal.main_arg4)
          ∧ r.2.mem ((c.tc : Thread Cert.CoordsIdeal.nD Cert.CoordsIdeal.τ).loc Cert.CoordsIdeal.main_arg5) = m ((c.tc : Thread Cert.CoordsIdeal.nD Cert.CoordsIdeal.τ).loc Cert.CoordsIdeal.main_arg5))
      ∧ θ_run (Cert.CoordsRefIdeal.defs (F := Ideal)) (onTc (τ := Cert.CoordsRefIdeal.τ) (Cert.CoordsRefIdeal.main (F := Ideal))) ⟨m', fun _ => 0, g'⟩ (fun r => ∀ c : Dev Cert.CoordsRefIdeal.nD,
          r.2.mem ((c.tc : Thread Cert.CoordsRefIdeal.nD Cert.CoordsRefIdeal.τ).loc Cert.CoordsRefIdeal.main_v59) = v0 c
          ∧ r.2.mem ((c.tc : Thread Cert.CoordsRefIdeal.nD Cert.CoordsRefIdeal.τ).loc Cert.CoordsRefIdeal.main_arg0) = m' ((c.tc : Thread Cert.CoordsRefIdeal.nD Cert.CoordsRefIdeal.τ).loc Cert.CoordsRefIdeal.main_arg0)
          ∧ r.2.mem ((c.tc : Thread Cert.CoordsRefIdeal.nD Cert.CoordsRefIdeal.τ).loc Cert.CoordsRefIdeal.main_arg1) = m' ((c.tc : Thread Cert.CoordsRefIdeal.nD Cert.CoordsRefIdeal.τ).loc Cert.CoordsRefIdeal.main_arg1)
          ∧ r.2.mem ((c.tc : Thread Cert.CoordsRefIdeal.nD Cert.CoordsRefIdeal.τ).loc Cert.CoordsRefIdeal.main_arg2) = m' ((c.tc : Thread Cert.CoordsRefIdeal.nD Cert.CoordsRefIdeal.τ).loc Cert.CoordsRefIdeal.main_arg2)
          ∧ r.2.mem ((c.tc : Thread Cert.CoordsRefIdeal.nD Cert.CoordsRefIdeal.τ).loc Cert.CoordsRefIdeal.main_arg3) = m' ((c.tc : Thread Cert.CoordsRefIdeal.nD Cert.CoordsRefIdeal.τ).loc Cert.CoordsRefIdeal.main_arg3)
          ∧ r.2.mem ((c.tc : Thread Cert.CoordsRefIdeal.nD Cert.CoordsRefIdeal.τ).loc Cert.CoordsRefIdeal.main_arg4) = m' ((c.tc : Thread Cert.CoordsRefIdeal.nD Cert.CoordsRefIdeal.τ).loc Cert.CoordsRefIdeal.main_arg4)
          ∧ r.2.mem ((c.tc : Thread Cert.CoordsRefIdeal.nD Cert.CoordsRefIdeal.τ).loc Cert.CoordsRefIdeal.main_arg5) = m' ((c.tc : Thread Cert.CoordsRefIdeal.nD Cert.CoordsRefIdeal.τ).loc Cert.CoordsRefIdeal.main_arg5))

def Claim : Prop :=
  ∃ (hValues : Cert.Values.Facts) (hValuesIdeal : Cert.ValuesIdeal.Facts) (hValuesRefIdeal : Cert.ValuesRefIdeal.Facts) (hCoords : Cert.Coords.Facts) (hCoordsIdeal : Cert.CoordsIdeal.Facts) (hCoordsRefIdeal : Cert.CoordsRefIdeal.Facts) (hPre_finite_times_and_time_weights : Cert.Pre_finite_times_and_time_weights.Facts),
    quiescent_Values (hValues := hValues)
    ∧ quiescent_ValuesIdeal (hValuesIdeal := hValuesIdeal)
    ∧ quiescent_ValuesRefIdeal (hValuesRefIdeal := hValuesRefIdeal)
    ∧ quiescent_Coords (hCoords := hCoords)
    ∧ quiescent_CoordsIdeal (hCoordsIdeal := hCoordsIdeal)
    ∧ quiescent_CoordsIdeal_pre_finite_times_and_time_weights (hCoordsIdeal := hCoordsIdeal) (hPre_finite_times_and_time_weights := hPre_finite_times_and_time_weights)
    ∧ quiescent_CoordsRefIdeal (hCoordsRefIdeal := hCoordsRefIdeal)
    ∧ quiescent_CoordsRefIdeal_pre_finite_times_and_time_weights (hCoordsRefIdeal := hCoordsRefIdeal) (hPre_finite_times_and_time_weights := hPre_finite_times_and_time_weights)
    ∧ preserves_Values_ValuesIdeal
    ∧ algebraic_ValuesIdeal_ValuesRefIdeal (hValuesIdeal := hValuesIdeal) (hValuesRefIdeal := hValuesRefIdeal)
    ∧ preserves_Coords_CoordsIdeal
    ∧ algebraic_CoordsIdeal_CoordsRefIdeal_pre_finite_times_and_time_weights (hCoordsIdeal := hCoordsIdeal) (hCoordsRefIdeal := hCoordsRefIdeal) (hPre_finite_times_and_time_weights := hPre_finite_times_and_time_weights)
-- ==== Pre_finite_times_and_time_weights.lean ====
abbrev S2x2x512x512 : Shape := ⟨4, ![2, 2, 512, 512]⟩
abbrev S2 : Shape := ⟨1, ![2]⟩
abbrev S128x192x16x16 : Shape := ⟨4, ![128, 192, 16, 16]⟩
abbrev S128 : Shape := ⟨1, ![128]⟩
abbrev S_ : Shape := ⟨0, ![]⟩
abbrev S128x64x16x16 : Shape := ⟨4, ![128, 64, 16, 16]⟩

class Facts : Prop where
  bcast_S_S2 : S_.BroadcastsInDim S2 (![] : Fin 0 → Fin S2.rank)
  slices_S128x192x16x16_S128x64x16x16_0_128_0_0 : S128x192x16x16.Slices ![0, 128, 0, 0] S128x64x16x16
  bcast_S_S128x64x16x16 : S_.BroadcastsInDim S128x64x16x16 (![] : Fin 0 → Fin S128x64x16x16.rank)

variable [Facts]

def fn {F : FTy → Type} [FloatOps F] (main_arg0 : FVec F S2x2x512x512 .f32) (main_arg1 : FVec F S2 .f32) (main_arg2 : FVec F S128x192x16x16 .f32) (main_arg3 : FVec F S128 .f32) (main_arg4 : FVec F S128 .f32) (main_arg5 : FVec F S128 .f32) : IVec S2 1 × IVec S128x64x16x16 1 :=
  let main_v0 : FVec F S2 .f32 := Host.absf main_arg1
  let main_cst : FVec F S_ .f32 := constant S_ .f32 0x7F800000#32
  let main_v1 : FVec F S2 .f32 := broadcastInDim S2 ![] bcast_S_S2 main_cst
  let main_v2 : IVec S2 1 := cmpf .olt main_v0 main_v1
  let main_v3 : FVec F S128x64x16x16 .f32 := (extractStridedSlice S128x64x16x16 ![0, 128, 0, 0] · slices_S128x192x16x16_S128x64x16x16_0_128_0_0) main_arg2
  let main_v4 : FVec F S128x64x16x16 .f32 := Host.absf main_v3
  let main_cst_0 : FVec F S_ .f32 := constant S_ .f32 0x7F800000#32
  let main_v5 : FVec F S128x64x16x16 .f32 := broadcastInDim S128x64x16x16 ![] bcast_S_S128x64x16x16 main_cst_0
  let main_v6 : IVec S128x64x16x16 1 := cmpf .olt main_v4 main_v5
  (main_v2, main_v6)
-- ==== Values.lean ====
abbrev S2x96x512x512 : Shape := ⟨4, ![2, 96, 512, 512]⟩
abbrev S128x96x16x16 : Shape := ⟨4, ![128, 96, 16, 16]⟩
abbrev S128 : Shape := ⟨1, ![128]⟩
abbrev S2x96x8x4x16x512 : Shape := ⟨6, ![2, 96, 8, 4, 16, 512]⟩
abbrev S16x96x16x128 : Shape := ⟨4, ![16, 96, 16, 128]⟩
abbrev S16x1536x128 : Shape := ⟨3, ![16, 1536, 128]⟩
abbrev S1x128 : Shape := ⟨2, ![1, 128]⟩
abbrev S2048x128 : Shape := ⟨2, ![2048, 128]⟩
abbrev S1x96x1x4x16x512 : Shape := ⟨6, ![1, 96, 1, 4, 16, 512]⟩
abbrev S128x128 : Shape := ⟨2, ![128, 128]⟩
abbrev S1x96x1x1x16x512 : Shape := ⟨6, ![1, 96, 1, 1, 16, 512]⟩
abbrev S96x16x512 : Shape := ⟨3, ![96, 16, 512]⟩
abbrev S1536x512 : Shape := ⟨2, ![1536, 512]⟩
abbrev S512x1536 : Shape := ⟨2, ![512, 1536]⟩
abbrev S32x16x1536 : Shape := ⟨3, ![32, 16, 1536]⟩
abbrev S16x32x1536 : Shape := ⟨3, ![16, 32, 1536]⟩
abbrev S16x128x1536 : Shape := ⟨3, ![16, 128, 1536]⟩
abbrev S1x128x1536 : Shape := ⟨3, ![1, 128, 1536]⟩
abbrev S128x1536 : Shape := ⟨2, ![128, 1536]⟩
abbrev S1x1536x128 : Shape := ⟨3, ![1, 1536, 128]⟩
abbrev S1536x128 : Shape := ⟨2, ![1536, 128]⟩
abbrev S128x1 : Shape := ⟨2, ![128, 1]⟩

abbrev nBuf : Space → Nat
  | .hbm => 12
  | .vmem => 8
  | .smem => 0
  | _ => 0

abbrev bufTy : (tb : Table) → Fin (tcTables nBuf tb) → BufTy
  | .hbm, ⟨0, _⟩ => ⟨S2x96x512x512, .f32⟩
  | .hbm, ⟨1, _⟩ => ⟨S128x96x16x16, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x96x8x4x16x512, .f32⟩
  | .hbm, ⟨6, _⟩ => ⟨S16x96x16x128, .f32⟩
  | .hbm, ⟨7, _⟩ => ⟨S16x1536x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S2048x128, .f32⟩
  | .local _ .vmem, ⟨0, _⟩ => ⟨S1x96x1x4x16x512, .f32⟩
  | .local _ .vmem, ⟨1, _⟩ => ⟨S1x96x1x4x16x512, .f32⟩
  | .local _ .vmem, ⟨2, _⟩ => ⟨S16x1536x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 6 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, c0_i32_10.toNat, v26.toNat, c0_i32_11.toNat, c0_i32_12.toNat, c0_i32_13.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x96x1x4x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ValuesIdeal.lean ====
variable {F : FTy → Type} [FloatOps F] [Named F]
def κ : String → Option EReal := fun
  | "sqrt_half" => some (((Real.sqrt 2)⁻¹ : ℝ) : EReal)
  | _ => none
-- ==== ValuesRefIdeal.lean ====
abbrev S2x96x512x512 : Shape := ⟨4, ![2, 96, 512, 512]⟩
abbrev S128x96x16x16 : Shape := ⟨4, ![128, 96, 16, 16]⟩
abbrev S128 : Shape := ⟨1, ![128]⟩
abbrev S2x96x32x16x32x16 : Shape := ⟨6, ![2, 96, 32, 16, 32, 16]⟩
abbrev S2x32x32x96x16x16 : Shape := ⟨6, ![2, 32, 32, 96, 16, 16]⟩
abbrev S2x32x32x24576 : Shape := ⟨4, ![2, 32, 32, 24576]⟩
abbrev S128x24576 : Shape := ⟨2, ![128, 24576]⟩
abbrev S24576x128 : Shape := ⟨2, ![24576, 128]⟩
abbrev S2x32x32x128 : Shape := ⟨4, ![2, 32, 32, 128]⟩
abbrev S1x1x1x128 : Shape := ⟨4, ![1, 1, 1, 128]⟩
abbrev S_ : Shape := ⟨0, ![]⟩
abbrev S2x32x32 : Shape := ⟨3, ![2, 32, 32]⟩
abbrev S2x32x32x1 : Shape := ⟨4, ![2, 32, 32, 1]⟩
abbrev S2048x128 : Shape := ⟨2, ![2048, 128]⟩

abbrev nBuf : Space → Nat
  | .hbm => 56
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S128x96x16x16, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x96x32x16x32x16, .f32⟩
  | .hbm, ⟨6, _⟩ => ⟨S2x32x32x96x16x16, .f32⟩
  | .hbm, ⟨7, _⟩ => ⟨S2x32x32x24576, .f32⟩
  | .hbm, ⟨8, _⟩ => ⟨S128x24576, .f32⟩
  | .hbm, ⟨9, _⟩ => ⟨S24576x128, .f32⟩
  | .hbm, ⟨10, _⟩ => ⟨S2x32x32x128, .f32⟩
  | .hbm, ⟨11, _⟩ => ⟨S1x1x1x128, .f32⟩
  | .hbm, ⟨12, _⟩ => ⟨S2x32x32x128, .f32⟩
  | .hbm, ⟨13, _⟩ => ⟨S2x32x32x128, .f32⟩
  | .hbm, ⟨14, _⟩ => ⟨S_, .f32⟩
  | .hbm, ⟨15, _⟩ => ⟨S2x32x32x128, .f32⟩
  | .hbm, ⟨16, _⟩ => ⟨S2x32x32x128, .f32⟩
  | .hbm, ⟨17, _⟩ => ⟨S_, .f32⟩
  | .hbm, ⟨18, _⟩ => ⟨S_, .f32⟩
  | .hbm, ⟨19, _⟩ => ⟨S2x32x32x128, .f32⟩
  | .hbm, ⟨20, _⟩ => ⟨S2x32x32x128, .f32⟩
  | .hbm, ⟨21, _⟩ => ⟨S2x32x32x128, .f32⟩
  | .hbm, ⟨22, _⟩ => ⟨S_, .f32⟩
  | .hbm, ⟨23, _⟩ => ⟨S2x32x32x128, .f32⟩
  | .hbm, ⟨24, _⟩ => ⟨S2x32x32x128, .f32⟩
  | .hbm, ⟨25, _⟩ => ⟨S2x32x32x128, .f32⟩
  | .hbm, ⟨26, _⟩ => ⟨S_, .f32⟩
  | .hbm, ⟨27, _⟩ => ⟨S2x32x32, .f32⟩
  | .hbm, ⟨28, _⟩ => ⟨S2x32x32x1, .f32⟩
  | .hbm, ⟨29, _⟩ => ⟨S_, .f32⟩
  | .hbm, ⟨30, _⟩ => ⟨S2x32x32x1, .f32⟩
  | .hbm, ⟨31, _⟩ => ⟨S2x32x32x1, .f32⟩
  | .hbm, ⟨32, _⟩ => ⟨S2x32x32x128, .f32⟩
  | .hbm, ⟨33, _⟩ => ⟨S2x32x32x128, .f32⟩
  | .hbm, ⟨34, _⟩ => ⟨S2x32x32x128, .f32⟩
  | .hbm, ⟨35, _⟩ => ⟨S_, .f32⟩
  | .hbm, ⟨36, _⟩ => ⟨S2x32x32, .f32⟩
  | .hbm, ⟨37, _⟩ => ⟨S2x32x32x1, .f32⟩
  | .hbm, ⟨38, _⟩ => ⟨S_, .f32⟩
  | .hbm, ⟨39, _⟩ => ⟨S2x32x32x1, .f32⟩
  | .hbm, ⟨40, _⟩ => ⟨S2x32x32x1, .f32⟩
  | .hbm, ⟨41, _⟩ => ⟨S2x32x32x128, .f32⟩
  | .hbm, ⟨42, _⟩ => ⟨S2x32x32x128, .f32⟩
  | .hbm, ⟨43, _⟩ => ⟨S_, .f32⟩
  | .hbm, ⟨44, _⟩ => ⟨S2x32x32x1, .f32⟩
  | .hbm, ⟨45, _⟩ => ⟨S2x32x32x1, .f32⟩
  | .hbm, ⟨46, _⟩ => ⟨S2x32x32x1, .f32⟩
  | .hbm, ⟨47, _⟩ => ⟨S2x32x32x128, .f32⟩
  | .hbm, ⟨48, _⟩ => ⟨S2x32x32x128, .f32⟩
  | .hbm, ⟨49, _⟩ => ⟨S1x1x1x128, .f32⟩
  | .hbm, ⟨50, _⟩ => ⟨S2x32x32x128, .f32⟩
  | .hbm, ⟨51, _⟩ => ⟨S2x32x32x128, .f32⟩
  | .hbm, ⟨52, _⟩ => ⟨S1x1x1x128, .f32⟩
  | .hbm, ⟨53, _⟩ => ⟨S2x32x32x128, .f32⟩
  | .hbm, ⟨54, _⟩ => ⟨S2x32x32x128, .f32⟩
  | .hbm, ⟨55, _⟩ => ⟨S2048x128, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Coords.lean ====
abbrev S2x2x512x512 : Shape := ⟨4, ![2, 2, 512, 512]⟩
abbrev S2 : Shape := ⟨1, ![2]⟩
abbrev S128x192x16x16 : Shape := ⟨4, ![128, 192, 16, 16]⟩
abbrev S128 : Shape := ⟨1, ![128]⟩
abbrev S32 : Shape := ⟨1, ![32]⟩
abbrev S2x2x32x16x32x16 : Shape := ⟨6, ![2, 2, 32, 16, 32, 16]⟩
abbrev S2x32x32x2x16x16 : Shape := ⟨6, ![2, 32, 32, 2, 16, 16]⟩
abbrev S2048x512 : Shape := ⟨2, ![2048, 512]⟩
abbrev S128x128x16x16 : Shape := ⟨4, ![128, 128, 16, 16]⟩
abbrev S128x32768 : Shape := ⟨2, ![128, 32768]⟩
abbrev S32768x128 : Shape := ⟨2, ![32768, 128]⟩
abbrev S128x64x16x16 : Shape := ⟨4, ![128, 64, 16, 16]⟩
abbrev S_ : Shape := ⟨0, ![]⟩
abbrev S128x64 : Shape := ⟨2, ![128, 64]⟩
abbrev S64x128 : Shape := ⟨2, ![64, 128]⟩
abbrev S2x1 : Shape := ⟨2, ![2, 1]⟩
abbrev S1x32 : Shape := ⟨2, ![1, 32]⟩
abbrev S2x32 : Shape := ⟨2, ![2, 32]⟩
abbrev S2x64 : Shape := ⟨2, ![2, 64]⟩
abbrev S2x128 : Shape := ⟨2, ![2, 128]⟩
abbrev S2x1x128 : Shape := ⟨3, ![2, 1, 128]⟩
abbrev S1x128 : Shape := ⟨2, ![1, 128]⟩
abbrev S2048x128 : Shape := ⟨2, ![2048, 128]⟩
abbrev S128x512 : Shape := ⟨2, ![128, 512]⟩
abbrev S1x1x128 : Shape := ⟨3, ![1, 1, 128]⟩
abbrev S128x128 : Shape := ⟨2, ![128, 128]⟩
abbrev S128x256 : Shape := ⟨2, ![128, 256]⟩
abbrev S128x1 : Shape := ⟨2, ![128, 1]⟩

abbrev nBuf : Space → Nat
  | .hbm => 31
  | .vmem => 11
  | .smem => 0
  | _ => 0

abbrev bufTy : (tb : Table) → Fin (tcTables nBuf tb) → BufTy
  | .hbm, ⟨0, _⟩ => ⟨S2x2x512x512, .f32⟩
  | .hbm, ⟨1, _⟩ => ⟨S2, .f32⟩
  | .hbm, ⟨2, _⟩ => ⟨S128x192x16x16, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32, .f32⟩
  | .hbm, ⟨7, _⟩ => ⟨S2x2x32x16x32x16, .f32⟩
  | .hbm, ⟨8, _⟩ => ⟨S2x32x32x2x16x16, .f32⟩
  | .hbm, ⟨9, _⟩ => ⟨S2048x512, .f32⟩
  | .hbm, ⟨10, _⟩ => ⟨S128x128x16x16, .f32⟩
  | .hbm, ⟨11, _⟩ => ⟨S128x32768, .f32⟩
  | .hbm, ⟨12, _⟩ => ⟨S32768x128, .f32⟩
  | .hbm, ⟨13, _⟩ => ⟨S128x64x16x16, .f32⟩
  | .hbm, ⟨14, _⟩ => ⟨S_, .f32⟩
  | .hbm, ⟨15, _⟩ => ⟨S128x64, .f32⟩
  | .hbm, ⟨16, _⟩ => ⟨S64x128, .f32⟩
  | .hbm, ⟨17, _⟩ => ⟨S2x1, .f32⟩
  | .hbm, ⟨18, _⟩ => ⟨S1x32, .f32⟩
  | .hbm, ⟨19, _⟩ => ⟨S2x32, .f32⟩
  | .hbm, ⟨20, _⟩ => ⟨S2x32, .f32⟩
  | .hbm, ⟨21, _⟩ => ⟨S2x32, .f32⟩
  | .hbm, ⟨22, _⟩ => ⟨S2x32, .f32⟩
  | .hbm, ⟨23, _⟩ => ⟨S2x32, .f32⟩
  | .hbm, ⟨24, _⟩ => ⟨S2x64, .f32⟩
  | .hbm, ⟨25, _⟩ => ⟨S2x128, .f32⟩
  | .hbm, ⟨26, _⟩ => ⟨S2x1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S2048x128, .f32⟩
  | .local _ .vmem, ⟨0, _⟩ => ⟨S128x512, .f32⟩
  | .local _ .vmem, ⟨1, _⟩ => ⟨S128x512, .f32⟩
  | .local _ .vmem, ⟨2, _⟩ => ⟨S1x1x128, .f32⟩
  | .local _ .vmem, ⟨3, _⟩ => ⟨S1x1x128, .f32⟩
  | .local _ .vmem, ⟨4, _⟩ => ⟨S32768x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x32768, .f32⟩
  | _, _ => ⟨S2x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 32 := Scalar.muli arg0 c128_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CoordsIdeal.lean ====
variable {F : FTy → Type} [FloatOps F] [Named F]
def κ : String → Option EReal := fun
  | "sqrt_half" => some (((Real.sqrt 2)⁻¹ : ℝ) : EReal)
  | _ => none
-- ==== CoordsRefIdeal.lean ====
abbrev S2x2x512x512 : Shape := ⟨4, ![2, 2, 512, 512]⟩
abbrev S2 : Shape := ⟨1, ![2]⟩
abbrev S128x192x16x16 : Shape := ⟨4, ![128, 192, 16, 16]⟩
abbrev S128 : Shape := ⟨1, ![128]⟩
abbrev S32 : Shape := ⟨1, ![32]⟩
abbrev S2x512x512x2 : Shape := ⟨4, ![2, 512, 512, 2]⟩
abbrev S524288x2 : Shape := ⟨2, ![524288, 2]⟩
abbrev S2x1 : Shape := ⟨2, ![2, 1]⟩
abbrev S2x262144 : Shape := ⟨2, ![2, 262144]⟩
abbrev S524288x1 : Shape := ⟨2, ![524288, 1]⟩
abbrev S524288x3 : Shape := ⟨2, ![524288, 3]⟩
abbrev S524288x3x1 : Shape := ⟨3, ![524288, 3, 1]⟩
abbrev S1x32 : Shape := ⟨2, ![1, 32]⟩
abbrev S1x1x32 : Shape := ⟨3, ![1, 1, 32]⟩
abbrev S524288x3x32 : Shape := ⟨3, ![524288, 3, 32]⟩
abbrev S524288x3x64 : Shape := ⟨3, ![524288, 3, 64]⟩
abbrev S2x512x512x192 : Shape := ⟨4, ![2, 512, 512, 192]⟩
abbrev S2x192x512x512 : Shape := ⟨4, ![2, 192, 512, 512]⟩
abbrev S2x192x32x16x32x16 : Shape := ⟨6, ![2, 192, 32, 16, 32, 16]⟩
abbrev S2x32x32x192x16x16 : Shape := ⟨6, ![2, 32, 32, 192, 16, 16]⟩
abbrev S2x32x32x49152 : Shape := ⟨4, ![2, 32, 32, 49152]⟩
abbrev S128x49152 : Shape := ⟨2, ![128, 49152]⟩
abbrev S49152x128 : Shape := ⟨2, ![49152, 128]⟩
abbrev S2x32x32x128 : Shape := ⟨4, ![2, 32, 32, 128]⟩
abbrev S1x1x1x128 : Shape := ⟨4, ![1, 1, 1, 128]⟩
abbrev S_ : Shape := ⟨0, ![]⟩
abbrev S2x32x32 : Shape := ⟨3, ![2, 32, 32]⟩
abbrev S2x32x32x1 : Shape := ⟨4, ![2, 32, 32, 1]⟩
abbrev S2048x128 : Shape := ⟨2, ![2048, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x2x512x512, .f32⟩
  | .hbm, ⟨1, _⟩ => ⟨S2, .f32⟩
  | .hbm, ⟨2, _⟩ => ⟨S128x192x16x16, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32, .f32⟩
  | .hbm, ⟨7, _⟩ => ⟨S2x512x512x2, .f32⟩
  | .hbm, ⟨8, _⟩ => ⟨S524288x2, .f32⟩
  | .hbm, ⟨9, _⟩ => ⟨S2x1, .f32⟩
  | .hbm, ⟨10, _⟩ => ⟨S2x262144, .f32⟩
  | .hbm, ⟨11, _⟩ => ⟨S524288x1, .f32⟩
  | .hbm, ⟨12, _⟩ => ⟨S524288x3, .f32⟩
  | .hbm, ⟨13, _⟩ => ⟨S524288x3x1, .f32⟩
  | .hbm, ⟨14, _⟩ => ⟨S1x32, .f32⟩
  | .hbm, ⟨15, _⟩ => ⟨S1x1x32, .f32⟩
  | .hbm, ⟨16, _⟩ => ⟨S524288x3x32, .f32⟩
  | .hbm, ⟨17, _⟩ => ⟨S524288x3x32, .f32⟩
  | .hbm, ⟨18, _⟩ => ⟨S524288x3x32, .f32⟩
  | .hbm, ⟨19, _⟩ => ⟨S524288x3x32, .f32⟩
  | .hbm, ⟨20, _⟩ => ⟨S524288x3x32, .f32⟩
  | .hbm, ⟨21, _⟩ => ⟨S524288x3x64, .f32⟩
  | .hbm, ⟨22, _⟩ => ⟨S2x512x512x192, .f32⟩
  | .hbm, ⟨23, _⟩ => ⟨S2x192x512x512, .f32⟩
  | .hbm, ⟨24, _⟩ => ⟨S2x192x32x16x32x16, .f32⟩
  | .hbm, ⟨25, _⟩ => ⟨S2x32x32x192x16x16, .f32⟩
  | .hbm, ⟨26, _⟩ => ⟨S2x32x32x49152, .f32⟩
  | .hbm, ⟨27, _⟩ => ⟨S128x49152, .f32⟩
  | .hbm, ⟨28, _⟩ => ⟨S49152x128, .f32⟩
  | .hbm, ⟨29, _⟩ => ⟨S2x32x32x128, .f32⟩
  | .hbm, ⟨30, _⟩ => ⟨S1x1x1x128, .f32⟩
  | .hbm, ⟨31, _⟩ => ⟨S2x32x32x128, .f32⟩
  | .hbm, ⟨32, _⟩ => ⟨S2x32x32x128, .f32⟩
  | .hbm, ⟨33, _⟩ => ⟨S_, .f32⟩
  | .hbm, ⟨34, _⟩ => ⟨S2x32x32x128, .f32⟩
  | .hbm, ⟨35, _⟩ => ⟨S2x32x32x128, .f32⟩
  | .hbm, ⟨36, _⟩ => ⟨S_, .f32⟩
  | .hbm, ⟨37, _⟩ => ⟨S_, .f32⟩
  | .hbm, ⟨38, _⟩ => ⟨S2x32x32x128, .f32⟩
  | .hbm, ⟨39, _⟩ => ⟨S2x32x32x128, .f32⟩
  | .hbm, ⟨40, _⟩ => ⟨S2x32x32x128, .f32⟩
  | .hbm, ⟨41, _⟩ => ⟨S_, .f32⟩
  | .hbm, ⟨42, _⟩ => ⟨S2x32x32x128, .f32⟩
  | .hbm, ⟨43, _⟩ => ⟨S2x32x32x128, .f32⟩
  | .hbm, ⟨44, _⟩ => ⟨S2x32x32x128, .f32⟩
  | .hbm, ⟨45, _⟩ => ⟨S_, .f32⟩
  | .hbm, ⟨46, _⟩ => ⟨S2x32x32, .f32⟩
  | .hbm, ⟨47, _⟩ => ⟨S2x32x32x1, .f32⟩
  | .hbm, ⟨48, _⟩ => ⟨S_, .f32⟩
  | .hbm, ⟨49, _⟩ => ⟨S2x32x32x1, .f32⟩
  | .hbm, ⟨50, _⟩ => ⟨S2x32x32x1, .f32⟩
  | .hbm, ⟨51, _⟩ => ⟨S2x32x32x128, .f32⟩
  | .hbm, ⟨52, _⟩ => ⟨S2x32x32x128, .f32⟩
  | .hbm, ⟨53, _⟩ => ⟨S2x32x32x128, .f32⟩
  | .hbm, ⟨54, _⟩ => ⟨S_, .f32⟩
  | .hbm, ⟨55, _⟩ => ⟨S2x32x32, .f32⟩
  | .hbm, ⟨56, _⟩ => ⟨S2x32x32x1, .f32⟩
  | .hbm, ⟨57, _⟩ => ⟨S_, .f32⟩
  | .hbm, ⟨58, _⟩ => ⟨S2x32x32x1, .f32⟩
  | .hbm, ⟨59, _⟩ => ⟨S2x32x32x1, .f32⟩
  | .hbm, ⟨60, _⟩ => ⟨S2x32x32x128, .f32⟩
  | .hbm, ⟨61, _⟩ => ⟨S2x32x32x128, .f32⟩
  | .hbm, ⟨62, _⟩ => ⟨S_, .f32⟩
  | .hbm, ⟨63, _⟩ => ⟨S2x32x32x1, .f32⟩
  | .hbm, ⟨64, _⟩ => ⟨S2x32x32x1, .f32⟩
  | .hbm, ⟨65, _⟩ => ⟨S2x32x32x1, .f32⟩
  | .hbm, ⟨66, _⟩ => ⟨S2x32x32x128, .f32⟩
  | .hbm, ⟨67, _⟩ => ⟨S2x32x32x128, .f32⟩
  | .hbm, ⟨68, _⟩ => ⟨S1x1x1x128, .f32⟩
  | .hbm, ⟨69, _⟩ => ⟨S2x32x32x128, .f32⟩
  | .hbm, ⟨70, _⟩ => ⟨S2x32x32x128, .f32⟩
  | .hbm, ⟨71, _⟩ => ⟨S1x1x1x128, .f32⟩
  | .hbm, ⟨72, _⟩ => ⟨S2x32x32x128, .f32⟩
  | .hbm, ⟨73, _⟩ => ⟨S2x32x32x128, .f32⟩
  | .hbm, ⟨74, _⟩ => ⟨S2048x128, .f32⟩
  | _, _ => ⟨S2x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.Row.lean ====
/-
  THE ROW FUNCTION of the two patch embeddings, over the extended reals: the affine image of a patch, put through the
  exact GELU and normalized over its 128 features. Both kernels and both references end in it.
-/
module

public import Idealize.ShloMosaic.PureOps.Ideal
public import Idealize.ShloMosaic.Lib.Pointwise

@[expose] public section

noncomputable section

namespace Cert.Row

open Idealize.ShloMosaic

/-- The scale inside the error function: one over the square root of two. -/
def scale : EReal := (((Real.sqrt 2)⁻¹ : ℝ) : EReal)

/-- GELU in its exact form: half of `y`, times one plus the error function of `y / √2`. -/
def act (y : EReal) : EReal := Ideal.ofBits .f32 0x3F000000#32 * y * (1 + Ideal.erf (y * scale))

/-- The mean of 128 features. -/
def mean (y : Fin 128 → EReal) : EReal := Ideal.div (∑ x, y x) (Ideal.ofBits .f32 0x43000000#32)

/-- Feature `d` of the layer norm of 128 features, scaled by `g` and shifted by `b`. -/
def norm (y : Fin 128 → EReal) (g b : EReal) (d : Fin 128) : EReal :=
  Ideal.div (y d - mean y)
    (Ideal.sqrt (mean (fun x => (y x - mean y) * (y x - mean y)) + Ideal.ofBits .f32 0x3727C5AC#32)) * g + b

/-- A row of an embedding: the layer norm of the GELU of the affine image `z`. -/
def row (z : Fin 128 → EReal) (g b : EReal) (d : Fin 128) : EReal := norm (fun x => act (z x)) g b d

/-- The float word of one half is one half. -/
theorem half_eq : Ideal.ofBits .f32 0x3F000000#32 = ((1 / 2 : ℝ) : EReal) := by
  simp [Ideal.ofBits, Ideal.ieee, -EReal.coe_mul]; norm_num

/-- The square root of one half, as the references spell the scale, is the scale. -/
theorem sqrt_half : Ideal.sqrt (Ideal.ofBits .f32 0x3F000000#32) = scale := by
  rw [half_eq, scale, Ideal.sqrt_coe, if_neg (by norm_num), one_div, Real.sqrt_inv]

end Cert.Row

end
-- ==== Proof.ValuesBlock.lean ====
/-
  ONE BLOCK of the first kernel's result, at an index: what the body stores, as a function of its input blocks.
-/
module

public import proofs.«01_k».proof.Proof.Gen.ValuesIdeal.Frame
public import proofs.«01_k».proof.Proof.Row
public import Idealize.ShloMosaic.Lib.Pipeline.ValueKit

@[expose] public section

set_option maxRecDepth 16384

noncomputable section

namespace Cert.ValuesIdeal.Block

open Cert.ValuesIdeal Cert.ValuesIdeal.Gen Idealize.ShloMosaic

/-- The kernel's named constant is the scale of the error function. -/
theorem scale_eq : Named.named (F := Ideal) κ "sqrt_half" (φ := .f32) 0x3F3504F3#32 = Cert.Row.scale :=
  IdealRules.named_const.ideal_named_scalar _ _ _ _ rfl

/-- The pixel that row `r` of the block meets at position `q` of column `j`: image row `r / 32` of the four, patch `r % 32`. -/
abbrev pixel (x0 : Vec Ideal S1x96x1x4x16x512 .f32) (r : Fin 128) (j : Fin 16) (q : Fin 1536) : EReal :=
  x0 (ix6 0 ⟨q / 16, by omega⟩ 0 ⟨r / 32, by omega⟩ ⟨q % 16, by omega⟩ ⟨r % 32 * 16 + j, by omega⟩)

/-- The four loads of the image block, stacked, hold the pixel. -/
theorem stacked (x0 : Vec Ideal S1x96x1x4x16x512 .f32) (j : Fin 16) (r : Fin 128) (q : Fin 1536) :
    k0_pay2 (View.ld x0 r0_0) (View.ld x0 r0_1) (View.ld x0 r0_2) (View.ld x0 r0_3) (ix3 j r q) = pixel x0 r j q := by
  pointwise [k0_pay2]
  blk_point []

/-- The sum before the bias: sixteen columns of 1536 pixels. -/
def dot (x0 : Vec Ideal S1x96x1x4x16x512 .f32) (x1 : Vec Ideal S16x1536x128 .f32) (r d : Fin 128) : EReal :=
  ∑ j : Fin 16, ∑ q : Fin 1536, pixel x0 r j q * x1 (ix3 j q d)

/-- Sixteen terms, added one after the other. -/
theorem sum_sixteen (f : Fin 16 → EReal) :
    ∑ j, f j = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- The activated features of the block: the sixteen products added, the bias, the GELU. -/
theorem activated (x0 : Vec Ideal S1x96x1x4x16x512 .f32) (x1 : Vec Ideal S16x1536x128 .f32) (x2 x3 x4 : Vec Ideal S1x128 .f32)
    (r d : Fin 128) :
    k0_pay12 (k0_pay15 x0 x1 x2 x3 x4) (k0_pay17 x0 x1 x2 x3 x4) (k0_pay18 x0 x1 x2 x3 x4) (k0_pay19 x0 x1 x2 x3 x4)
      (k0_pay16 x0 x1 x2 x3 x4) (View.ld x1 r0_17) (View.ld x1 r0_18) (View.ld x1 r0_19) x2 (ix2 r d)
      = Cert.Row.act (dot x0 x1 r d + x2 (ix2 0 d)) := by
  pointwise [k0_pay12, k0_pay15, k0_pay16, k0_pay17, k0_pay18, k0_pay19, k0_pay3, k0_pay4, k0_pay5, k0_pay6, k0_pay7,
    k0_pay8, k0_pay9, k0_pay10, k0_pay11]
  simp only [stacked, scale_eq]
  rw [Cert.Row.act, dot, sum_sixteen]
  rfl

/-- What the body stores at row `r`, feature `d`: the row function of the block's dot products. -/
theorem stored (x0 : Vec Ideal S1x96x1x4x16x512 .f32) (x1 : Vec Ideal S16x1536x128 .f32) (x2 x3 x4 : Vec Ideal S1x128 .f32)
    (r d : Fin 128) :
    out0_5 x0 x1 x2 x3 x4 (ix2 r d)
      = Cert.Row.row (fun l => dot x0 x1 r l + x2 (ix2 0 l)) (x3 (ix2 0 d)) (x4 (ix2 0 d)) d := by
  frame_out
  pointwise [k0_pay1, k0_pay13, k0_pay14]
  simp only [activated]
  rfl

end Cert.ValuesIdeal.Block

end
-- ==== Proof.Patch.lean ====
/-
  THE CONVOLUTION of the first embedding, over the extended reals: 16 × 16 patches of a 96-channel image, stride 16, into
  128 features. A patch has 24576 pixels, met in two orders: channel, row, column, one after the other (the reference), and
  column by column, each column's 1536 pixels by channel and row (the kernel).
-/
module

public import Idealize.ShloMosaic.PureOps.Ideal
public import Idealize.ShloMosaic.Lib.Pointwise

@[expose] public section

noncomputable section

namespace Cert.Patch

open Idealize.ShloMosaic

/-- The two images, by image, channel, row and column. -/
abbrev Images : Type := FVec Ideal (⟨4, ![2, 96, 512, 512]⟩ : Shape) .f32
/-- The convolution's weights, by feature, channel, row and column. -/
abbrev Weights : Type := FVec Ideal (⟨4, ![128, 96, 16, 16]⟩ : Shape) .f32
/-- A vector of 128 features. -/
abbrev Features : Type := FVec Ideal (⟨1, ![128]⟩ : Shape) .f32

/-- One product of the convolution: patch `n` (of 2 · 32 · 32) at channel `c`, row `i` and column `j`, times the weight of
    feature `d` there. -/
def term (A : Images) (W : Weights) (n : Fin 2048) (d : Fin 128) (c : Fin 96) (i j : Fin 16) : EReal :=
  A (ix4 ⟨n / 1024, by omega⟩ c ⟨n / 32 % 32 * 16 + i, by omega⟩ ⟨n % 32 * 16 + j, by omega⟩) * W (ix4 d c i j)

/-- The product at position `q` of column `j`: channel `q / 16`, row `q % 16`. -/
def columnTerm (A : Images) (W : Weights) (n : Fin 2048) (d : Fin 128) (j : Fin 16) (q : Fin 1536) : EReal :=
  term A W n d ⟨q / 16, by omega⟩ ⟨q % 16, by omega⟩ j

/-- Feature `d` of patch `n`, column by column. -/
def byColumn (A : Images) (W : Weights) (n : Fin 2048) (d : Fin 128) : EReal :=
  ∑ j : Fin 16, ∑ q : Fin 1536, columnTerm A W n d j q

/-- Feature `d` of patch `n`, pixel after pixel. -/
def byPixel (A : Images) (W : Weights) (n : Fin 2048) (d : Fin 128) : EReal :=
  ∑ k : Fin 24576, term A W n d ⟨k / 256, by omega⟩ ⟨k / 16 % 16, by omega⟩ ⟨k % 16, by omega⟩

/-- The two orders give one sum. -/
theorem byPixel_eq (A : Images) (W : Weights) (n : Fin 2048) (d : Fin 128) : byPixel A W n d = byColumn A W n d := by
  unfold byPixel byColumn
  rw [Fin.sum_univ_tiles 1536 16 (by norm_num), Finset.sum_comm]
  refine Finset.sum_congr rfl fun j _ => Finset.sum_congr rfl fun q _ => ?_
  unfold columnTerm
  congr 1 <;> refine Fin.ext ?_ <;> simp only <;> omega

end Cert.Patch

end
-- ==== Proof.ValuesArray.lean ====
/-
  THE FIRST KERNEL's result array after the run: the row function of the convolution, taken column by column.
-/
module

public import proofs.«01_k».proof.Proof.Gen.ValuesIdeal.Value
public import proofs.«01_k».proof.Proof.ValuesBlock
public import proofs.«01_k».proof.Proof.Patch

@[expose] public section

set_option maxRecDepth 16384

noncomputable section

namespace Cert.ValuesIdeal.RefValue

open Cert.ValuesIdeal Cert.ValuesIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The embedding of device `c`'s images, at patch `n` and feature `d`. -/
def embedding (c : Dev nD) (n : Fin 2048) (d : Fin 128) : EReal :=
  Cert.Row.row
    (fun l => Cert.Patch.byColumn (m ((c : Thread nD τ).loc main_arg0)) (m ((c : Thread nD τ).loc main_arg1)) n l
      + (m ((c : Thread nD τ).loc main_arg2) : FVec Ideal S128 .f32) (ix1 l))
    ((m ((c : Thread nD τ).loc main_arg3) : FVec Ideal S128 .f32) (ix1 d))
    ((m ((c : Thread nD τ).loc main_arg4) : FVec Ideal S128 .f32) (ix1 d)) d

/-- The same, as an array. -/
def result (c : Dev nD) : FVec Ideal S2048x128 .f32 := fun i => embedding m c (i 0) (i 1)

/-- The windows' blocks at grid point `t`: image `t / 8` and its rows of patches from `t % 8 * 4`; the weights, the bias and
    the two norm vectors whole; rows from `128 t` of the result. -/
theorem idx : ∀ t : Fin cfg0.N, win0_0.index t = ![t.val / 8, 0, t.val % 8, 0, 0, 0] ∧ win0_1.index t = ![0, 0, 0]
    ∧ win0_2.index t = ![0, 0] ∧ win0_3.index t = ![0, 0] ∧ win0_4.index t = ![0, 0] ∧ win0_5.index t = ![t.val, 0] :=
  (by decide +kernel : ∀ t : Fin grid0.N, _)

/-- One product of the block is one product of the convolution. -/
theorem pixel_mul (c : Dev nD) (t : Fin cfg0.N) (r d : Fin 128) (j : Fin 16) (q : Fin 1536) (hn : t.val * 128 + r < 2048) :
    Block.pixel (iblk m c 0 t) r j q * (iblk m c 1 t : Vec Ideal S16x1536x128 .f32) (ix3 j q d)
      = Cert.Patch.columnTerm (m ((c : Thread nD τ).loc main_arg0)) (m ((c : Thread nD τ).loc main_arg1))
          ⟨t.val * 128 + r, hn⟩ d j q := by
  unfold Block.pixel Cert.Patch.columnTerm Cert.Patch.term
  have ht : t.val < 16 := t.isLt
  blk_point [iblk, idx t]

/-- What the body leaves at row `r`, feature `d` of point `t`'s block. -/
theorem point (c : Dev nD) (t : Fin cfg0.N) (r d : Fin 128) (hn : t.val * 128 + r < 2048) :
    out0_5 (iblk m c 0 t) (iblk m c 1 t) (iblk m c 2 t) (iblk m c 3 t) (iblk m c 4 t) (ix2 r d)
      = embedding m c ⟨t.val * 128 + r, hn⟩ d := by
  rw [Block.stored]
  unfold Block.dot
  simp only [pixel_mul m c t _ _ _ _ hn]
  unfold embedding Cert.Patch.byColumn
  blk_point [iblk, idx t]

/-- The result array after the run is the embedding. -/
theorem final (c : Dev nD) : (dats m 0 c).arrAt 5 cfg0.N = result m c := by
  refine (dats m 0 c).arrAt_eq_of_covers 5 _ (by decide +kernel) fun t _ y => ?_
  blk_simp
  rw [after0_5]
  have ht : t.val < 16 := t.isLt
  have hy0 : (y 0).val < 128 := (y 0).isLt
  have hy1 : (y 1).val < 128 := (y 1).isLt
  have hn : t.val * 128 + (y 0).val < 2048 := by omega
  have hy : y = ix2 (⟨(y 0).val, hy0⟩ : Fin 128) (⟨(y 1).val, hy1⟩ : Fin 128) := eq_ix2 y
  have e0 : ((win0_5.blk t).view.emb y 0 : ℕ) = t.val * 128 + (y 0).val := by blk_simp [idx t]
  have e1 : ((win0_5.blk t).view.emb y 1 : ℕ) = (y 1).val := by blk_simp [idx t]
  have E0 : (win0_5.blk t).view.emb y 0 = (⟨t.val * 128 + (y 0).val, hn⟩ : Fin 2048) := Fin.ext e0
  have E1 : (win0_5.blk t).view.emb y 1 = (⟨(y 1).val, hy1⟩ : Fin 128) := Fin.ext e1
  refine Eq.trans ?_ ((point m c t ⟨(y 0).val, hy0⟩ ⟨(y 1).val, hy1⟩ hn).trans ?_)
  · exact congrArg (out0_5 (iblk m c 0 t) (iblk m c 1 t) (iblk m c 2 t) (iblk m c 3 t) (iblk m c 4 t)) hy
  · unfold result
    rw [E0, E1]

/-- The run, read: the result array at the embedding, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.ValuesIdeal.RefValue

end
-- ==== Proof.ValuesReference.lean ====
/-
  THE REFERENCE of the first embedding, at an index: its result as the row function of the convolution.
-/
module

public import proofs.«01_k».proof.Proof.Gen.ValuesRefIdeal.Run
public import proofs.«01_k».proof.Proof.Row
public import proofs.«01_k».proof.Proof.Patch
public import Idealize.ShloMosaic.Lib.Pointwise

@[expose] public section

set_option maxRecDepth 16384

noncomputable section

namespace Cert.ValuesRefIdeal.RefValue

open Cert.ValuesRefIdeal Cert.ValuesRefIdeal.Gen Idealize.ShloMosaic Idealize.ShloMosaic.TcCoe Idealize.SL.Sem

/-- The feature vector `b` along the last axis of the patch array. -/
abbrev along (b : FVec Ideal S128 .f32) : FVec Ideal S2x32x32x128 .f32 :=
  broadcastInDim S2x32x32x128 ![0, 1, 2, 3] bcast_S1x1x1x128_S2x32x32x128_0_1_2_3
    (broadcastInDim S1x1x1x128 ![3] bcast_S128_S1x1x1x128_3 b)

/-- A scalar everywhere in the patch array. -/
abbrev everywhere (s : FVec Ideal S_ .f32) : FVec Ideal S2x32x32x128 .f32 := broadcastInDim S2x32x32x128 ![] bcast_S_S2x32x32x128 s

/-- One value a patch, repeated over its features. -/
abbrev spread (x : FVec Ideal S2x32x32x1 .f32) : FVec Ideal S2x32x32x128 .f32 :=
  broadcastInDim S2x32x32x128 ![0, 1, 2, 3] bcast_S2x32x32x1_S2x32x32x128_0_1_2_3 x

/-- The convolution with its bias, as the reference spells it: the images cut in patches, times the weights as a matrix. -/
def conv (A : FVec Ideal S2x96x512x512 .f32) (W : FVec Ideal S128x96x16x16 .f32) (b : FVec Ideal S128 .f32) :
    FVec Ideal S2x32x32x128 .f32 :=
  addf (Host.dotGeneral dot_S2x32x32x24576_S24576x128_S2x32x32x128_3_0_012_1_n_n none
    (shapeCast S2x32x32x24576 (transpose S2x32x32x96x16x16 [0, 2, 4, 1, 3, 5]
      (shapeCast S2x96x32x16x32x16 A shapeCasts_S2x96x512x512_S2x96x32x16x32x16)
      transposes_S2x96x32x16x32x16_S2x32x32x96x16x16_0_2_4_1_3_5) shapeCasts_S2x32x32x96x16x16_S2x32x32x24576)
    (transpose S24576x128 [1, 0] (shapeCast S128x24576 W shapeCasts_S128x96x16x16_S128x24576)
      transposes_S128x24576_S24576x128_1_0)) (along b)

/-- The exact GELU of an array, as the reference spells it. -/
def gelu (z : FVec Ideal S2x32x32x128 .f32) : FVec Ideal S2x32x32x128 .f32 :=
  mulf (mulf (everywhere (constant S_ .f32 0x3F000000#32)) z)
    (addf (everywhere (constant S_ .f32 0x3F800000#32))
      (Host.erf (mulf z (everywhere (Host.sqrt (constant S_ .f32 0x3F000000#32))))))

/-- The mean over the features of a patch, as the reference spells it. -/
def mean (y : FVec Ideal S2x32x32x128 .f32) : FVec Ideal S2x32x32x1 .f32 :=
  Host.divf (broadcastInDim S2x32x32x1 ![0, 1, 2] bcast_S2x32x32_S2x32x32x1_0_1_2
    (Host.reduceAdd y (constant S_ .f32 0x00000000#32) reducesTo_S2x32x32x128_S2x32x32_d3 h_S_))
    (broadcastInDim S2x32x32x1 ![] bcast_S_S2x32x32x1 (constant S_ .f32 0x43000000#32))

/-- The layer norm over the features of a patch, as the reference spells it. -/
def layerNorm (y : FVec Ideal S2x32x32x128 .f32) (g b : FVec Ideal S128 .f32) : FVec Ideal S2x32x32x128 .f32 :=
  addf (mulf (Host.divf (subf y (spread (mean y))) (spread (Host.sqrt (addf
    (mean (mulf (subf y (spread (mean y))) (subf y (spread (mean y)))))
    (broadcastInDim S2x32x32x1 ![] bcast_S_S2x32x32x1 (constant S_ .f32 0x3727C5AC#32)))))) (along g)) (along b)

/-- The reference's result is the layer norm of the GELU of the convolution, its patches in one row. -/
theorem result_eq (m : (ℓ : Loc nD τ sig) → Buf (Elt Ideal) ℓ) (c : Dev nD) :
    Value.res_main_v42 m c = shapeCast S2048x128 (layerNorm (gelu (conv (m ((c.tc : Thread nD τ).loc main_arg0))
      (m ((c.tc : Thread nD τ).loc main_arg1)) (m ((c.tc : Thread nD τ).loc main_arg2))))
      (m ((c.tc : Thread nD τ).loc main_arg3)) (m ((c.tc : Thread nD τ).loc main_arg4))) shapeCasts_S2x32x32x128_S2048x128 := by
  unfold Value.res_main_v42
  rfl

/-- The convolution at a patch and a feature. -/
theorem conv_apply (A : FVec Ideal S2x96x512x512 .f32) (W : FVec Ideal S128x96x16x16 .f32) (b : FVec Ideal S128 .f32)
    (n : Fin 2048) (d : Fin 128) :
    conv A W b (ix4 ⟨n / 1024, by omega⟩ ⟨n / 32 % 32, by omega⟩ ⟨n % 32, by omega⟩ d)
      = Cert.Patch.byPixel A W n d + b (ix1 d) := by
  pointwise [conv]
  rfl

/-- The GELU at an index. -/
theorem gelu_apply (z : FVec Ideal S2x32x32x128 .f32) (i : Fin 2) (h w : Fin 32) (d : Fin 128) :
    gelu z (ix4 i h w d) = Cert.Row.act (z (ix4 i h w d)) := by
  pointwise [gelu]
  rw [Cert.Row.sqrt_half]
  rfl

/-- The mean at a patch. -/
theorem mean_apply (y : FVec Ideal S2x32x32x128 .f32) (i : Fin 2) (h w : Fin 32) :
    mean y (ix4 i h w 0) = Cert.Row.mean fun x => y (ix4 i h w x) := by
  pointwise [mean]
  rfl

/-- The layer norm at an index. -/
theorem layerNorm_apply (y : FVec Ideal S2x32x32x128 .f32) (g b : FVec Ideal S128 .f32) (i : Fin 2) (h w : Fin 32) (d : Fin 128) :
    layerNorm y g b (ix4 i h w d) = Cert.Row.norm (fun x => y (ix4 i h w x)) (g (ix1 d)) (b (ix1 d)) d := by
  pointwise [layerNorm]
  simp only [mean_apply]
  pointwise [mean_apply]
  rfl

/-- The reference's result at patch `n` and feature `d`, the convolution taken column by column. -/
theorem result_apply (m : (ℓ : Loc nD τ sig) → Buf (Elt Ideal) ℓ) (c : Dev nD) (n : Fin 2048) (d : Fin 128) :
    Value.res_main_v42 m c (ix2 n d) = Cert.Row.row
      (fun l => Cert.Patch.byColumn (m ((c.tc : Thread nD τ).loc main_arg0)) (m ((c.tc : Thread nD τ).loc main_arg1)) n l
        + m ((c.tc : Thread nD τ).loc main_arg2) (ix1 l))
      (m ((c.tc : Thread nD τ).loc main_arg3) (ix1 d)) (m ((c.tc : Thread nD τ).loc main_arg4) (ix1 d)) d := by
  rw [result_eq]
  pointwise []
  rw [layerNorm_apply]
  simp only [gelu_apply, conv_apply, Cert.Patch.byPixel_eq]
  rfl

end Cert.ValuesRefIdeal.RefValue

end
-- ==== Proof.ValuesClaim.lean ====
/-
  THE CLAIMS of the first embedding: the kernel's result is the reference's, element by element, over the extended reals.
-/
module

public import proofs.«01_k».proof.Defs
public import proofs.«01_k».proof.Proof.Gen.Values.Frame
public import proofs.«01_k».proof.Proof.ValuesArray
public import proofs.«01_k».proof.Proof.ValuesReference
public import Idealize.ShloMosaic.Lib.Quiescent

@[expose] public section

noncomputable section

namespace Cert.ValuesClaim

open Idealize.ShloMosaic Idealize.ShloMosaic.TcCoe Idealize.SL.Sem

/-- The kernel runs and leaves its arguments as they were. -/
theorem frame : Cert.quiescent_Values := fun m ρ _ => Cert.Values.Gen.frame m ρ

/-- So does its idealization. -/
theorem frame_ideal : Cert.quiescent_ValuesIdeal := fun m ρ _ => Cert.ValuesIdeal.Gen.frame m ρ

/-- So does the reference. -/
theorem frame_reference : Cert.quiescent_ValuesRefIdeal := fun m ρ _ =>
  (θ_run Cert.ValuesRefIdeal.defs _ _).mono
    (fun r h => ⟨fun c => (h c).2, sem_eq_zero_of_no_sems (by decide) r.2⟩)
    (Cert.ValuesRefIdeal.Value.run (F := Ideal) m ρ)

/-- The idealization replaces one constant by its name. -/
theorem preserves : Cert.preserves_Values_ValuesIdeal :=
  IdealRules.named_const.statement Cert.ValuesIdeal.κ "sqrt_half" .f32 0x3F3504F3#32 (((Real.sqrt 2)⁻¹ : ℝ) : EReal) rfl

/-- The reference's result, from arguments that agree with the kernel's, is the embedding. -/
theorem reference_eq (m : (ℓ : Loc Cert.ValuesIdeal.nD Cert.ValuesIdeal.τ Cert.ValuesIdeal.sig) → Buf (Elt Ideal) ℓ)
    (m' : (ℓ : Loc Cert.ValuesRefIdeal.nD Cert.ValuesRefIdeal.τ Cert.ValuesRefIdeal.sig) → Buf (Elt Ideal) ℓ)
    (c : Dev Cert.ValuesIdeal.nD)
    (h0 : m' ((c.tc : Thread Cert.ValuesRefIdeal.nD Cert.ValuesRefIdeal.τ).loc Cert.ValuesRefIdeal.main_arg0)
      = m ((c.tc : Thread Cert.ValuesIdeal.nD Cert.ValuesIdeal.τ).loc Cert.ValuesIdeal.main_arg0))
    (h1 : m' ((c.tc : Thread Cert.ValuesRefIdeal.nD Cert.ValuesRefIdeal.τ).loc Cert.ValuesRefIdeal.main_arg1)
      = m ((c.tc : Thread Cert.ValuesIdeal.nD Cert.ValuesIdeal.τ).loc Cert.ValuesIdeal.main_arg1))
    (h2 : m' ((c.tc : Thread Cert.ValuesRefIdeal.nD Cert.ValuesRefIdeal.τ).loc Cert.ValuesRefIdeal.main_arg2)
      = m ((c.tc : Thread Cert.ValuesIdeal.nD Cert.ValuesIdeal.τ).loc Cert.ValuesIdeal.main_arg2))
    (h3 : m' ((c.tc : Thread Cert.ValuesRefIdeal.nD Cert.ValuesRefIdeal.τ).loc Cert.ValuesRefIdeal.main_arg3)
      = m ((c.tc : Thread Cert.ValuesIdeal.nD Cert.ValuesIdeal.τ).loc Cert.ValuesIdeal.main_arg3))
    (h4 : m' ((c.tc : Thread Cert.ValuesRefIdeal.nD Cert.ValuesRefIdeal.τ).loc Cert.ValuesRefIdeal.main_arg4)
      = m ((c.tc : Thread Cert.ValuesIdeal.nD Cert.ValuesIdeal.τ).loc Cert.ValuesIdeal.main_arg4)) :
    Cert.ValuesRefIdeal.Value.res_main_v42 m' c = Cert.ValuesIdeal.RefValue.result m c := by
  funext i
  refine (congrArg (Cert.ValuesRefIdeal.Value.res_main_v42 m' c) (eq_ix2 i)).trans ?_
  refine (Cert.ValuesRefIdeal.RefValue.result_apply m' c (i 0) (i 1)).trans ?_
  rw [h0, h1, h2, h3, h4]
  rfl

/-- From memories that agree on the arguments the kernel and the reference end with one result, the arguments unchanged. -/
theorem algebraic : Cert.algebraic_ValuesIdeal_ValuesRefIdeal := by
  intro m ρ m' ρ' _ hagree
  refine ⟨fun c => Cert.ValuesIdeal.RefValue.result m c, Cert.ValuesIdeal.RefValue.run m ρ, ?_⟩
  refine (θ_run Cert.ValuesRefIdeal.defs _ _).mono (fun _ h c => ⟨(h c).1.trans ?_, (h c).2⟩)
    (Cert.ValuesRefIdeal.Value.run (F := Ideal) m' ρ')
  obtain ⟨h0, h1, h2, h3, h4⟩ := hagree c
  exact reference_eq m m' c h0 h1 h2 h3 h4

end Cert.ValuesClaim

end
-- ==== Proof.CoordsFrames.lean ====
/-
  THE FRAMES of the second embedding: each program runs and leaves its arguments as they were.
-/
module

public import proofs.«01_k».proof.Defs
public import proofs.«01_k».proof.Proof.Gen.Coords.Frame
public import proofs.«01_k».proof.Proof.Gen.CoordsIdeal.Frame
public import proofs.«01_k».proof.Proof.Gen.CoordsRefIdeal.Run
public import Idealize.ShloMosaic.Lib.Quiescent

@[expose] public section

noncomputable section

namespace Cert.CoordsFrames

open Idealize.ShloMosaic Idealize.ShloMosaic.TcCoe Idealize.SL.Sem

/-- The kernel runs and leaves its arguments as they were. -/
theorem frame : Cert.quiescent_Coords := fun m ρ _ => Cert.Coords.Gen.frame m ρ

/-- So does its idealization. -/
theorem frame_ideal : Cert.quiescent_CoordsIdeal := fun m ρ _ => Cert.CoordsIdeal.Gen.frame m ρ

/-- So does the reference. -/
theorem frame_reference : Cert.quiescent_CoordsRefIdeal := fun m ρ _ =>
  (θ_run Cert.CoordsRefIdeal.defs _ _).mono
    (fun r h => ⟨fun c => (h c).2, sem_eq_zero_of_no_sems (by decide) r.2⟩)
    (Cert.CoordsRefIdeal.Value.run (F := Ideal) m ρ)

/-- The precondition's function takes shapes that fit. -/
theorem precondition_facts : Cert.Pre_finite_times_and_time_weights.Facts where
  bcast_S_S2 := by decide
  slices_S128x192x16x16_S128x64x16x16_0_128_0_0 := by decide
  bcast_S_S128x64x16x16 := by decide

/-- The idealization's frame, under the precondition, which it does not need. -/
theorem frame_ideal_pre [Cert.Pre_finite_times_and_time_weights.Facts] :
    Cert.quiescent_CoordsIdeal_pre_finite_times_and_time_weights := fun m ρ _ => Cert.CoordsIdeal.Gen.frame m ρ

/-- The reference's frame, under the precondition, which it does not need. -/
theorem frame_reference_pre [Cert.Pre_finite_times_and_time_weights.Facts] :
    Cert.quiescent_CoordsRefIdeal_pre_finite_times_and_time_weights := fun m ρ _ => frame_reference m ρ trivial

/-- The idealization replaces one constant by its name. -/
theorem preserves : Cert.preserves_Coords_CoordsIdeal :=
  IdealRules.named_const.statement Cert.CoordsIdeal.κ "sqrt_half" .f32 0x3F3504F3#32 (((Real.sqrt 2)⁻¹ : ℝ) : EReal) rfl

end Cert.CoordsFrames

end
-- ==== Proof.Wave.lean ====
/-
  THE FEATURES of a coordinate, over the extended reals: the cosines, then the sines, of its products with 32 frequencies.
  The frequencies are float32 words, the same in the kernel and in the reference.
-/
module

public import proofs.«01_k».proof.CoordsIdeal
public import Idealize.ShloMosaic.PureOps.Ideal

@[expose] public section

noncomputable section

namespace Cert.Wave

open Idealize.ShloMosaic

/-- The words of the 32 frequencies. -/
abbrev word : Fin 32 → BitVec 32 := Cert.CoordsIdeal.lit0

/-- The frequency `q`. -/
def freq (q : Fin 32) : EReal := Ideal.ofBits .f32 (word q)

/-- Feature `q` of the coordinate `x`: a cosine in the first half, a sine in the second. -/
def wave (q : Fin 64) (x : EReal) : EReal :=
  if q.val < 32 then Ideal.cos (x * freq ⟨q % 32, by omega⟩) else Ideal.sin (x * freq ⟨q % 32, by omega⟩)

/-- A float32 word whose exponent is not all ones is a real number. -/
theorem ofBits_real (w : BitVec 32) (h : (w.extractLsb' 23 8).toNat ≠ 255) : ∃ r : ℝ, Ideal.ofBits .f32 w = r := by
  show ∃ r : ℝ, Ideal.ieee 8 23 w = r
  unfold Ideal.ieee
  dsimp only
  rw [if_neg (show ¬ (w.extractLsb' 23 8).toNat = 2 ^ 8 - 1 from h)]
  by_cases h0 : (w.extractLsb' 23 8).toNat = 0
  · exact ⟨_, if_pos h0⟩
  · exact ⟨_, if_neg h0⟩

/-- Every frequency is a real number. -/
theorem freq_real (q : Fin 32) : ∃ r : ℝ, freq q = r := by
  refine ofBits_real _ ?_
  revert q
  decide

/-- The features of a real coordinate are real numbers. -/
theorem wave_real (q : Fin 64) (x : ℝ) : ∃ r : ℝ, wave q x = r := by
  obtain ⟨f, hf⟩ := freq_real ⟨q % 32, by omega⟩
  unfold wave
  rw [hf, ← EReal.coe_mul]
  by_cases h : q.val < 32
  · exact ⟨_, if_pos h⟩
  · exact ⟨_, if_neg h⟩

end Cert.Wave

end
-- ==== Proof.CoordsBlock.lean ====
/-
  ONE BLOCK of the second kernel's result, at an index: what the body stores, as a function of its input blocks.
-/
module

public import proofs.«01_k».proof.Proof.Gen.CoordsIdeal.Frame
public import proofs.«01_k».proof.Proof.Row
public import proofs.«01_k».proof.Proof.Wave
public import Idealize.ShloMosaic.Lib.Pipeline.ValueKit

@[expose] public section

set_option maxRecDepth 16384

noncomputable section

namespace Cert.CoordsIdeal.Block

open Cert.CoordsIdeal Cert.CoordsIdeal.Gen Idealize.ShloMosaic Idealize.ShloMosaic.TcCoe Idealize.SL.Sem
open Idealize.ShloMosaic.Pipeline (Dat)

/-- The kernel's named constant is the scale of the error function. -/
theorem scale_eq : Named.named (F := Ideal) κ "sqrt_half" (φ := .f32) 0x3F3504F3#32 = Cert.Row.scale :=
  IdealRules.named_const.ideal_named_scalar _ _ _ _ rfl

/-- The activated features of the block: the product with the scratch array, the two biases, the GELU. -/
theorem activated (S : Vec Ideal S128x32768 .f32) (x1 : Vec Ideal S1x1x128 .f32) (x2 : Vec Ideal S32768x128 .f32)
    (x3 : Vec Ideal S1x128 .f32) (r d : Fin 128) :
    k0_pay208 S x2 x1 x3 (ix2 r d)
      = Cert.Row.act (∑ k : Fin 32768, S (ix2 r k) * x2 (ix2 k d) + x1 (ix3 0 0 d) + x3 (ix2 0 d)) := by
  pointwise [k0_pay208]
  simp only [scale_eq]
  rfl

/-- What the body stores, given a row of the scratch array: the row function of its product with the weights. -/
theorem stored_of (S : Vec Ideal S128x32768 .f32) (x1 : Vec Ideal S1x1x128 .f32) (x2 : Vec Ideal S32768x128 .f32)
    (x3 x4 x5 : Vec Ideal S1x128 .f32) (r d : Fin 128) (f : Fin 32768 → EReal) (hf : ∀ k, S (ix2 r k) = f k) :
    k0_pay1 (k0_pay208 S x2 x1 x3) (k0_pay209 S x2 x1 x3) (k0_pay210 S x2 x1 x3) x4 x5 (ix2 r d)
      = Cert.Row.row (fun l => ∑ k : Fin 32768, f k * x2 (ix2 k l) + x1 (ix3 0 0 l) + x3 (ix2 0 l))
          (x4 (ix2 0 d)) (x5 (ix2 0 d)) d := by
  obtain rfl : f = fun k => S (ix2 r k) := funext fun k => (hf k).symm
  pointwise [k0_pay1, k0_pay209, k0_pay210]
  simp only [activated]
  rfl

/-- Position `k` of the features of row `r`: feature `k / 256 % 64` of latitude or longitude, at pixel `k % 256`. -/
def feature (x0 : Vec Ideal S128x512 .f32) (r : Fin 128) (k : Fin 32768) : EReal :=
  Cert.Wave.wave ⟨k / 256 % 64, by omega⟩ (x0 (ix2 r ⟨k / 16384 * 256 + k % 256, by omega⟩))

/-- Columns `off … off + 255` of the features, where they are cosines: those of the block's columns from `o` on, at one frequency. -/
theorem cos_piece (x0 : Vec Ideal S128x512 .f32) {o : ℕ} (inb : ∀ a, ![0, o] a + ![128, 256] a ≤ S128x512.size a) (w : BitVec 32)
    (h h' : S128x256.ShapeCasts S128x256) (x : S128x256.Idx) (r : Fin 128) (k : Fin 32768) (off : ℕ) (h0 : r.val = x 0)
    (h1 : k.val = off + x 1) (hoff : off % 256 = 0) (hq : off / 256 % 64 < 32) (ho : o = off / 16384 * 256)
    (hw : Cert.Wave.word ⟨off / 256 % 32, by omega⟩ = w) :
    shapeCast S128x256 (cos (F := Ideal) (φ := .f32) (mulf (shapeCast S128x256 (View.ld x0 (Rect.unit ![0, o] ![128, 256] inb)) h)
        (broadcast S128x256 (FloatOps.ofBits .f32 w)))) h' x = feature x0 r k := by
  have hx : (x 1 : ℕ) < 256 := (x 1).isLt
  have e : (⟨k / 16384 * 256 + k % 256, by omega⟩ : Fin 512) = ⟨o + x 1, by omega⟩ := by
    apply Fin.ext
    show k.val / 16384 * 256 + k.val % 256 = o + x 1
    omega
  have eq : (⟨(k.val / 256 % 64) % 32, by omega⟩ : Fin 32) = ⟨off / 256 % 32, by omega⟩ := by
    apply Fin.ext
    show k.val / 256 % 64 % 32 = off / 256 % 32
    omega
  have er : r = x 0 := Fin.ext h0
  unfold feature Cert.Wave.wave
  rw [if_pos (show k.val / 256 % 64 < 32 by omega)]
  unfold Cert.Wave.freq
  rw [e, eq, hw, er]
  pointwise

/-- Columns `off … off + 255` of the features, where they are sines: those of the block's columns from `o` on, at one frequency. -/
theorem sin_piece (x0 : Vec Ideal S128x512 .f32) {o : ℕ} (inb : ∀ a, ![0, o] a + ![128, 256] a ≤ S128x512.size a) (w : BitVec 32)
    (h h' : S128x256.ShapeCasts S128x256) (x : S128x256.Idx) (r : Fin 128) (k : Fin 32768) (off : ℕ) (h0 : r.val = x 0)
    (h1 : k.val = off + x 1) (hoff : off % 256 = 0) (hq : ¬ off / 256 % 64 < 32) (ho : o = off / 16384 * 256)
    (hw : Cert.Wave.word ⟨off / 256 % 32, by omega⟩ = w) :
    shapeCast S128x256 (sin (F := Ideal) (φ := .f32) (mulf (shapeCast S128x256 (View.ld x0 (Rect.unit ![0, o] ![128, 256] inb)) h)
        (broadcast S128x256 (FloatOps.ofBits .f32 w)))) h' x = feature x0 r k := by
  have hx : (x 1 : ℕ) < 256 := (x 1).isLt
  have e : (⟨k / 16384 * 256 + k % 256, by omega⟩ : Fin 512) = ⟨o + x 1, by omega⟩ := by
    apply Fin.ext
    show k.val / 16384 * 256 + k.val % 256 = o + x 1
    omega
  have eq : (⟨(k.val / 256 % 64) % 32, by omega⟩ : Fin 32) = ⟨off / 256 % 32, by omega⟩ := by
    apply Fin.ext
    show k.val / 256 % 64 % 32 = off / 256 % 32
    omega
  have er : r = x 0 := Fin.ext h0
  unfold feature Cert.Wave.wave
  rw [if_neg (show ¬ k.val / 256 % 64 < 32 by omega)]
  unfold Cert.Wave.freq
  rw [e, eq, hw, er]
  pointwise

variable (m : (ℓ : Loc nD τ sig) → Buf (Elt Ideal) ℓ)

set_option maxHeartbeats 4000000 in
/-- What one grid point stores: the row function of the features' product with the weights. -/
theorem stored (c : Dev nD) (t : Fin cfg0.N) (r d : Fin 128) :
    outsAt0 m c t (ix2 r d)
      = Cert.Row.row (fun l => ∑ k : Fin 32768, feature (iblk m c 0 t) r k * iblk m c 2 t (ix2 k l) + iblk m c 1 t (ix3 0 0 l)
          + iblk m c 3 t (ix2 0 l)) (iblk m c 4 t (ix2 0 d)) (iblk m c 5 t (ix2 0 d)) d := by
  unfold outsAt0
  frame_out
  refine stored_of _ _ _ _ _ _ r d _ (fun k => ?_)
  refine (congrFun (View.readCov_eq_canon' (Val := Elt Ideal) _ _ _) _).trans ?_
  show View.canon _ _ = _
  have hy : (Rect.unit ![0, 0] ![128, 32768] inb_S128x32768_S128x32768_0_0).idx (ix2 r k) = ix2 r k := by
    refine (eq_ix2 _).trans ?_
    congr 1 <;> exact Fin.ext ((Rect.idx_unit_val _ _ _ _ _).trans (Nat.zero_add _))
  rw [hy]
  canon_tiles x h
  case piece127 =>
    open_payloads
    exact cos_piece _ _ _ _ _ x r k 0 h0 (h1.trans (Nat.zero_add _).symm) (by decide) (by decide) (by decide) rfl
  all_goals
    open_payloads
    first
      | exact cos_piece _ _ _ _ _ x r k _ h0 h1 (by decide) (by decide) (by decide) rfl
      | exact sin_piece _ _ _ _ _ x r k _ h0 h1 (by decide) (by decide) (by decide) rfl

end Cert.CoordsIdeal.Block

end
-- ==== Proof.Times.lean ====
/-
  THE CONVOLUTION of the second embedding, over the extended reals: 16 × 16 patches, stride 16, of the features of latitude,
  longitude and time, into 128 features. Latitude and longitude vary from pixel to pixel; the time is one number an image,
  so that its part of the convolution is its 64 features times the weights summed over the patch.
-/
module

public import proofs.«01_k».proof.Proof.Wave
public import Idealize.ShloMosaic.Lib.Pointwise

@[expose] public section

noncomputable section

namespace Cert.Times

open Idealize.ShloMosaic Cert.Wave

/-- Latitude and longitude, by image, coordinate, row and column. -/
abbrev Coordinates : Type := FVec Ideal (⟨4, ![2, 2, 512, 512]⟩ : Shape) .f32
/-- The time of each image. -/
abbrev Moments : Type := FVec Ideal (⟨1, ![2]⟩ : Shape) .f32
/-- The convolution's weights, by feature, channel, row and column. -/
abbrev Weights : Type := FVec Ideal (⟨4, ![128, 192, 16, 16]⟩ : Shape) .f32

/-- One product of the convolution in the channels of latitude and longitude: patch `n` (of 2 · 32 · 32) at position `k`,
    channel, row and column one after the other. -/
def spaceTerm (A : Coordinates) (W : Weights) (n : Fin 2048) (d : Fin 128) (k : Fin 32768) : EReal :=
  wave ⟨k / 256 % 64, by omega⟩ (A (ix4 ⟨n / 1024, by omega⟩ ⟨k / 16384, by omega⟩ ⟨n / 32 % 32 * 16 + k / 16 % 16, by omega⟩
    ⟨n % 32 * 16 + k % 16, by omega⟩)) * W (ix4 d ⟨k / 256, by omega⟩ ⟨k / 16 % 16, by omega⟩ ⟨k % 16, by omega⟩)

/-- The weight of feature `d` in channel `q` of the time, summed over the patch. -/
def timeWeight (W : Weights) (d : Fin 128) (q : Fin 64) : EReal := ∑ i : Fin 16, ∑ j : Fin 16, W (ix4 d ⟨128 + q, by omega⟩ i j)

/-- The time's part of the convolution, in image `b`. -/
def timeTerm (T : Moments) (W : Weights) (b : Fin 2) (d : Fin 128) : EReal := ∑ q : Fin 64, wave q (T (ix1 b)) * timeWeight W d q

/-- Feature `d` of patch `n`: the two parts. -/
def byPart (A : Coordinates) (T : Moments) (W : Weights) (n : Fin 2048) (d : Fin 128) : EReal :=
  ∑ k : Fin 32768, spaceTerm A W n d k + timeTerm T W ⟨n / 1024, by omega⟩ d

/-- One product of the convolution over all 192 channels, at position `k`. -/
def term (A : Coordinates) (T : Moments) (W : Weights) (n : Fin 2048) (d : Fin 128) (k : Fin 49152) : EReal :=
  wave ⟨k / 256 % 64, by omega⟩ (if h : k.val / 256 / 64 < 2 then
      A (ix4 ⟨n / 1024, by omega⟩ ⟨k / 256 / 64, h⟩ ⟨n / 32 % 32 * 16 + k / 16 % 16, by omega⟩ ⟨n % 32 * 16 + k % 16, by omega⟩)
    else T (ix1 ⟨n / 1024, by omega⟩)) * W (ix4 d ⟨k / 256, by omega⟩ ⟨k / 16 % 16, by omega⟩ ⟨k % 16, by omega⟩)

/-- Feature `d` of patch `n`, pixel after pixel. -/
def byPixel (A : Coordinates) (T : Moments) (W : Weights) (n : Fin 2048) (d : Fin 128) : EReal := ∑ k : Fin 49152, term A T W n d k

/-- A real number times a sum of real numbers is the sum of the products. -/
theorem mul_sum_real {n : ℕ} (a : ℝ) (f : Fin n → EReal) (hf : ∀ x, ∃ r : ℝ, f x = r) : (a : EReal) * ∑ x, f x = ∑ x, a * f x := by
  choose g hg using hf
  obtain rfl : f = fun x => (g x : EReal) := funext hg
  have e : ∀ h : Fin n → ℝ, ∑ x, (h x : EReal) = ((∑ x, h x : ℝ) : EReal) := fun h =>
    (map_sum (⟨⟨Real.toEReal, EReal.coe_zero⟩, EReal.coe_add⟩ : ℝ →+ EReal) h Finset.univ).symm
  simp only [← EReal.coe_mul, e, Finset.mul_sum]

/-- A sum of real numbers is a real number. -/
theorem sum_real {n : ℕ} (f : Fin n → EReal) (hf : ∀ x, ∃ r : ℝ, f x = r) : ∃ r : ℝ, ∑ x, f x = r := by
  choose g hg using hf
  obtain rfl : f = fun x => (g x : EReal) := funext hg
  exact ⟨_, (map_sum (⟨⟨Real.toEReal, EReal.coe_zero⟩, EReal.coe_add⟩ : ℝ →+ EReal) g Finset.univ).symm⟩

/-- In the channels of latitude and longitude the two orders meet the same products. -/
theorem term_space (A : Coordinates) (T : Moments) (W : Weights) (n : Fin 2048) (d : Fin 128) (k : Fin 32768) :
    term A T W n d ⟨k, by omega⟩ = spaceTerm A W n d k := by
  unfold term spaceTerm
  have h : k.val / 256 / 64 < 2 := by omega
  have e : (⟨k.val / 256 / 64, h⟩ : Fin 2) = ⟨k / 16384, by omega⟩ := Fin.ext (by show k.val / 256 / 64 = k.val / 16384; omega)
  rw [dif_pos h, e]

/-- In the channels of the time a product is the time's feature times a weight. -/
theorem term_time (A : Coordinates) (T : Moments) (W : Weights) (n : Fin 2048) (d : Fin 128) (q : Fin 64) (i j : Fin 16)
    (hk : 32768 + (q.val * 256 + (i.val * 16 + j.val)) < 49152) :
    term A T W n d ⟨32768 + (q.val * 256 + (i.val * 16 + j.val)), hk⟩
      = wave q (T (ix1 ⟨n / 1024, by omega⟩)) * W (ix4 d ⟨128 + q, by omega⟩ i j) := by
  unfold term
  rw [dif_neg (by simp only; omega)]
  congr 1
  · congr 1
    apply Fin.ext
    simp only
    omega
  · congr 2 <;> apply Fin.ext <;> simp only <;> omega

/-- Where the times and the time's weights are real numbers, the two orders give one sum. -/
theorem byPixel_eq (A : Coordinates) (T : Moments) (W : Weights) (hT : ∀ b, ∃ r : ℝ, T (ix1 b) = r)
    (hW : ∀ (d : Fin 128) (q : Fin 64) (i j : Fin 16), ∃ r : ℝ, W (ix4 d ⟨128 + q, by omega⟩ i j) = r)
    (n : Fin 2048) (d : Fin 128) : byPixel A T W n d = byPart A T W n d := by
  unfold byPixel byPart
  refine (Fin.sum_univ_add (a := 32768) (b := 16384) (term A T W n d)).trans (congrArg₂ (· + ·) ?_ ?_)
  · exact Finset.sum_congr rfl fun k _ => term_space A T W n d k
  · unfold timeTerm timeWeight
    rw [Fin.sum_univ_tiles 64 256 (by norm_num)]
    refine Finset.sum_congr rfl fun q _ => ?_
    rw [Fin.sum_univ_tiles 16 16 (by norm_num)]
    obtain ⟨t, ht⟩ := hT ⟨n / 1024, by omega⟩
    obtain ⟨a, ha⟩ := wave_real q t
    rw [ht, ha, mul_sum_real a _ fun i => sum_real _ fun j => hW d q i j]
    refine Finset.sum_congr rfl fun i _ => ?_
    rw [mul_sum_real a _ fun j => hW d q i j]
    refine Finset.sum_congr rfl fun j _ => ?_
    rw [← ha, ← ht]
    exact term_time A T W n d q i j (by omega)

end Cert.Times

end
-- ==== Proof.CoordsTime.lean ====
/-
  THE TIME'S PART of the second kernel's convolution, computed ahead of the grid: the features of the two times, multiplied
  by the time's weights summed over the patch.
-/
module

public import proofs.«01_k».proof.Proof.Gen.CoordsIdeal.Frame
public import Idealize.ShloMosaic.Lib.Pipeline.Value
public import Idealize.ShloMosaic.Lib.Pipeline.ValueKit
public import proofs.«01_k».proof.Proof.Times

@[expose] public section

set_option maxRecDepth 16384

noncomputable section

namespace Cert.CoordsIdeal.Time

open Cert.CoordsIdeal Cert.CoordsIdeal.Gen Idealize.ShloMosaic Idealize.ShloMosaic.TcCoe Idealize.SL.Sem

/-- The two times, times the 32 frequencies. -/
def angle (T : FVec Ideal S2 .f32) : FVec Ideal S2x32 .f32 :=
  mulf (broadcastInDim S2x32 ![0, 1] bcast_S2x1_S2x32_0_1 (broadcastInDim S2x1 ![0] bcast_S2_S2x1_0 T))
    (broadcastInDim S2x32 ![0, 1] bcast_S1x32_S2x32_0_1 (broadcastInDim S1x32 ![1] bcast_S32_S1x32_1
      (fun i => FloatOps.ofBits .f32 (lit0 (S32.rowMajor i)))))

/-- Their cosines and sines. -/
def waves (T : FVec Ideal S2 .f32) : FVec Ideal S2x64 .f32 :=
  concatenate S2x64 1 [⟨S2x32, Host.cos (angle T)⟩, ⟨S2x32, Host.sin (angle T)⟩] concatenates_S2x32_S2x32_S2x64_d1

/-- The time's weights, summed over the patch. -/
def weights (W : FVec Ideal S128x192x16x16 .f32) : FVec Ideal S128x64 .f32 :=
  Host.reduceAdd (extractStridedSlice S128x64x16x16 ![0, 128, 0, 0] W slices_S128x192x16x16_S128x64x16x16_0_128_0_0)
    (constant S_ .f32 0x00000000#32) reducesTo_S128x64x16x16_S128x64_d2_3 h_S_

/-- The product of the two. -/
def part (T : FVec Ideal S2 .f32) (W : FVec Ideal S128x192x16x16 .f32) : FVec Ideal S2x1x128 .f32 :=
  shapeCast S2x1x128 (Host.dotGeneral dot_S2x64_S64x128_S2x128_1_0_0_1_n_n none (waves T)
    (transpose S64x128 [1, 0] (weights W) transposes_S128x64_S64x128_1_0)) shapeCasts_S2x128_S2x1x128

variable (m : (ℓ : Loc nD τ sig) → Buf (Elt Ideal) ℓ)

/-- The array the kernel's second window reads is that product. -/
theorem entry (c : Dev nD) :
    V m c main_v18 = part (m ((c.tc : Thread nD τ).loc main_arg1)) (m ((c.tc : Thread nD τ).loc main_arg2)) := by
  entry_read
  rfl

/-- The features of a time. -/
theorem waves_apply (T : FVec Ideal S2 .f32) (b : Fin 2) (q : Fin 64) :
    waves T (ix2 b q) = Cert.Wave.wave q (T (ix1 b)) := by
  pointwise [waves, angle]
  unfold Cert.Wave.wave Cert.Wave.freq
  have e : ∀ a : Fin 32, S32.rowMajor (ix1 a) = a := fun a => Fin.ext (Shape.rowMajor_val_one _)
  by_cases h : q.val < 32
  · rw [dif_pos h, if_pos h, e]
    congr 4
    exact Fin.ext (Nat.mod_eq_of_lt h).symm
  · rw [dif_neg h, if_neg h, e]
    congr 4
    apply Fin.ext
    show q.val - 32 = q.val % 32
    omega

/-- A summed weight. -/
theorem weights_apply (W : FVec Ideal S128x192x16x16 .f32) (d : Fin 128) (q : Fin 64) :
    weights W (ix2 d q) = Cert.Times.timeWeight W d q := by
  pointwise [weights]
  rfl

/-- The product, at an image and a feature. -/
theorem part_apply (T : FVec Ideal S2 .f32) (W : FVec Ideal S128x192x16x16 .f32) (b : Fin 2) (d : Fin 128) :
    part T W (ix3 b 0 d) = Cert.Times.timeTerm T W b d := by
  pointwise [part]
  simp only [waves_apply, weights_apply]
  rfl

end Cert.CoordsIdeal.Time

end
-- ==== Proof.CoordsArray.lean ====
/-
  THE SECOND KERNEL's result array after the run: the row function of the convolution, its two parts apart.
-/
module

public import Idealize.ShloMosaic.Lib.Pipeline.Value
public import proofs.«01_k».proof.Proof.CoordsBlock
public import proofs.«01_k».proof.Proof.CoordsTime

@[expose] public section

set_option maxRecDepth 16384

noncomputable section

namespace Cert.CoordsIdeal.RefValue

open Cert.CoordsIdeal Cert.CoordsIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The windows' blocks at grid point `t`: rows from `128 t` of the patches; the time's part for image `t / 8`; the weights,
    the bias and the two norm vectors whole; rows from `128 t` of the result. -/
theorem idx : ∀ t : Fin cfg0.N, win0_0.index t = ![t.val, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![t.val, 0] :=
  (by decide +kernel : ∀ t : Fin grid0.N, _)

/-- One product of the block is one product of the convolution. -/
theorem feature_mul (c : Dev nD) (t : Fin cfg0.N) (r d : Fin 128) (k : Fin 32768) (hn : t.val * 128 + r < 2048) :
    Block.feature (iblk m c 0 t) r k * (iblk m c 2 t : Vec Ideal S32768x128 .f32) (ix2 k d)
      = Cert.Times.spaceTerm (m ((c : Thread nD τ).loc main_arg0)) (m ((c : Thread nD τ).loc main_arg2))
          ⟨t.val * 128 + r, hn⟩ d k := by
  unfold Block.feature Cert.Times.spaceTerm
  have ht : t.val < 16 := t.isLt
  blk_point [iblk, idx t]

/-- The time's part, in the block. -/
theorem time (c : Dev nD) (t : Fin cfg0.N) (r d : Fin 128) (hn : t.val * 128 + r < 2048) :
    (iblk m c 1 t : Vec Ideal S1x1x128 .f32) (ix3 0 0 d)
      = Cert.Times.timeTerm (m ((c : Thread nD τ).loc main_arg1)) (m ((c : Thread nD τ).loc main_arg2))
          ⟨(t.val * 128 + r) / 1024, by omega⟩ d := by
  have ht : t.val < 16 := t.isLt
  have hr : r.val < 128 := r.isLt
  rw [← Time.part_apply, ← Time.entry]
  show V m c main_v18 ((win0_1.blk t).view.emb (ix3 0 0 d)) = _
  have e0 : ((win0_1.blk t).view.emb (ix3 0 0 d) 0 : ℕ) = (t.val * 128 + r.val) / 1024 := by
    have e : (t.val * 128 + r.val) / 1024 = t.val / 8 := by omega
    rw [e]
    blk_simp [idx t]
    rfl
  have e2 : ((win0_1.blk t).view.emb (ix3 0 0 d) 2 : ℕ) = d.val := by blk_simp [idx t]
  refine congrArg (V m c main_v18) ((eq_ix3 _).trans ?_)
  congr 1
  exacts [Fin.ext e0, Fin.ext e2]

/-- The embedding of device `c`'s coordinates and times, at patch `n` and feature `d`. -/
def embedding (c : Dev nD) (n : Fin 2048) (d : Fin 128) : EReal :=
  Cert.Row.row
    (fun l => Cert.Times.byPart (m ((c : Thread nD τ).loc main_arg0)) (m ((c : Thread nD τ).loc main_arg1))
        (m ((c : Thread nD τ).loc main_arg2)) n l
      + (m ((c : Thread nD τ).loc main_arg3) : FVec Ideal S128 .f32) (ix1 l))
    ((m ((c : Thread nD τ).loc main_arg4) : FVec Ideal S128 .f32) (ix1 d))
    ((m ((c : Thread nD τ).loc main_arg5) : FVec Ideal S128 .f32) (ix1 d)) d

/-- The same, as an array. -/
def result (c : Dev nD) : FVec Ideal S2048x128 .f32 := fun i => embedding m c (i 0) (i 1)

/-- What the body leaves at row `r`, feature `d` of point `t`'s block. -/
theorem point (c : Dev nD) (t : Fin cfg0.N) (r d : Fin 128) (hn : t.val * 128 + r < 2048) :
    outsAt0 m c t (ix2 r d) = embedding m c ⟨t.val * 128 + r, hn⟩ d := by
  rw [Block.stored]
  simp only [feature_mul m c t _ _ _ hn, time m c t _ _ hn]
  unfold embedding Cert.Times.byPart
  blk_point [iblk, idx t]

/-- The result array after the run is the embedding. -/
theorem final (c : Dev nD) : (dats m 0 c).arrAt 6 cfg0.N = result m c := by
  refine (dats m 0 c).arrAt_eq_of_covers 6 _ (by decide +kernel) fun t _ y => ?_
  blk_simp
  rw [after0_6]
  have ht : t.val < 16 := t.isLt
  have hy0 : (y 0).val < 128 := (y 0).isLt
  have hy1 : (y 1).val < 128 := (y 1).isLt
  have hn : t.val * 128 + (y 0).val < 2048 := by omega
  have hy : y = ix2 (⟨(y 0).val, hy0⟩ : Fin 128) (⟨(y 1).val, hy1⟩ : Fin 128) := eq_ix2 y
  have e0 : ((win0_6.blk t).view.emb y 0 : ℕ) = t.val * 128 + (y 0).val := by blk_simp [idx t]
  have e1 : ((win0_6.blk t).view.emb y 1 : ℕ) = (y 1).val := by blk_simp [idx t]
  have E0 : (win0_6.blk t).view.emb y 0 = (⟨t.val * 128 + (y 0).val, hn⟩ : Fin 2048) := Fin.ext e0
  have E1 : (win0_6.blk t).view.emb y 1 = (⟨(y 1).val, hy1⟩ : Fin 128) := Fin.ext e1
  refine Eq.trans ?_ ((point m c t ⟨(y 0).val, hy0⟩ ⟨(y 1).val, hy1⟩ hn).trans ?_)
  · exact congrArg (outsAt0 m c t) hy
  · unfold result
    rw [E0, E1]

/-- The run, read: the result array at the embedding, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.2 c).1 6).trans (final m c), h.1 c⟩)
    (θ_run_and (unchanged m ρ) (run_main m ρ))

end Cert.CoordsIdeal.RefValue

end
-- ==== Proof.CoordsReference.lean ====
/-
  THE REFERENCE of the second embedding, at an index: its result as the row function of the convolution.
-/
module

public import proofs.«01_k».proof.Proof.Gen.CoordsRefIdeal.Run
public import proofs.«01_k».proof.Proof.Row
public import proofs.«01_k».proof.Proof.Times
public import Idealize.ShloMosaic.Lib.Pointwise

@[expose] public section

set_option maxRecDepth 16384

noncomputable section

namespace Cert.CoordsRefIdeal.RefValue

open Cert.CoordsRefIdeal Cert.CoordsRefIdeal.Gen Idealize.ShloMosaic Idealize.ShloMosaic.TcCoe Idealize.SL.Sem

/-- The feature vector `b` along the last axis of the patch array. -/
abbrev along (b : FVec Ideal S128 .f32) : FVec Ideal S2x32x32x128 .f32 :=
  broadcastInDim S2x32x32x128 ![0, 1, 2, 3] bcast_S1x1x1x128_S2x32x32x128_0_1_2_3
    (broadcastInDim S1x1x1x128 ![3] bcast_S128_S1x1x1x128_3 b)

/-- A scalar everywhere in the patch array. -/
abbrev everywhere (s : FVec Ideal S_ .f32) : FVec Ideal S2x32x32x128 .f32 := broadcastInDim S2x32x32x128 ![] bcast_S_S2x32x32x128 s

/-- One value a patch, repeated over its features. -/
abbrev spread (x : FVec Ideal S2x32x32x1 .f32) : FVec Ideal S2x32x32x128 .f32 :=
  broadcastInDim S2x32x32x128 ![0, 1, 2, 3] bcast_S2x32x32x1_S2x32x32x128_0_1_2_3 x

/-- Latitude, longitude and time of every pixel, a pixel a row. -/
def pixels (A : FVec Ideal S2x2x512x512 .f32) (T : FVec Ideal S2 .f32) : FVec Ideal S524288x3 .f32 :=
  concatenate S524288x3 1
    [⟨S524288x2, shapeCast S524288x2 (transpose S2x512x512x2 [0, 2, 3, 1] A transposes_S2x2x512x512_S2x512x512x2_0_2_3_1)
        shapeCasts_S2x512x512x2_S524288x2⟩,
      ⟨S524288x1, shapeCast S524288x1 (broadcastInDim S2x262144 ![0, 1] bcast_S2x1_S2x262144_0_1
        (shapeCast S2x1 T shapeCasts_S2_S2x1)) shapeCasts_S2x262144_S524288x1⟩]
    concatenates_S524288x2_S524288x1_S524288x3_d1

/-- Every coordinate times the 32 frequencies. -/
def angles (x : FVec Ideal S524288x3 .f32) : FVec Ideal S524288x3x32 .f32 :=
  mulf (broadcastInDim S524288x3x32 ![0, 1, 2] bcast_S524288x3x1_S524288x3x32_0_1_2
      (broadcastInDim S524288x3x1 ![0, 1] bcast_S524288x3_S524288x3x1_0_1 x))
    (broadcastInDim S524288x3x32 ![0, 1, 2] bcast_S1x1x32_S524288x3x32_0_1_2
      (broadcastInDim S1x1x32 ![1, 2] bcast_S1x32_S1x1x32_1_2 (broadcastInDim S1x32 ![1] bcast_S32_S1x32_1
        (fun i => FloatOps.ofBits .f32 (lit0 (S32.rowMajor i))))))

/-- Their cosines and sines: 64 features a coordinate. -/
def waves (x : FVec Ideal S524288x3 .f32) : FVec Ideal S524288x3x64 .f32 :=
  concatenate S524288x3x64 2 [⟨S524288x3x32, Host.cos (angles x)⟩, ⟨S524288x3x32, Host.sin (angles x)⟩]
    concatenates_S524288x3x32_S524288x3x32_S524288x3x64_d2

/-- The features as an image of 192 channels, cut in patches. -/
def patches (e : FVec Ideal S524288x3x64 .f32) : FVec Ideal S2x32x32x49152 .f32 :=
  shapeCast S2x32x32x49152 (transpose S2x32x32x192x16x16 [0, 2, 4, 1, 3, 5]
    (shapeCast S2x192x32x16x32x16 (transpose S2x192x512x512 [0, 3, 1, 2]
      (shapeCast S2x512x512x192 e shapeCasts_S524288x3x64_S2x512x512x192)
      transposes_S2x512x512x192_S2x192x512x512_0_3_1_2) shapeCasts_S2x192x512x512_S2x192x32x16x32x16)
    transposes_S2x192x32x16x32x16_S2x32x32x192x16x16_0_2_4_1_3_5) shapeCasts_S2x32x32x192x16x16_S2x32x32x49152

/-- The convolution with its bias, as the reference spells it: the patches times the weights as a matrix. -/
def conv (p : FVec Ideal S2x32x32x49152 .f32) (W : FVec Ideal S128x192x16x16 .f32) (b : FVec Ideal S128 .f32) :
    FVec Ideal S2x32x32x128 .f32 :=
  addf (Host.dotGeneral dot_S2x32x32x49152_S49152x128_S2x32x32x128_3_0_012_1_n_n none p
    (transpose S49152x128 [1, 0] (shapeCast S128x49152 W shapeCasts_S128x192x16x16_S128x49152)
      transposes_S128x49152_S49152x128_1_0)) (along b)

/-- The exact GELU of an array, as the reference spells it. -/
def gelu (z : FVec Ideal S2x32x32x128 .f32) : FVec Ideal S2x32x32x128 .f32 :=
  mulf (mulf (everywhere (constant S_ .f32 0x3F000000#32)) z)
    (addf (everywhere (constant S_ .f32 0x3F800000#32))
      (Host.erf (mulf z (everywhere (Host.sqrt (constant S_ .f32 0x3F000000#32))))))

/-- The mean over the features of a patch, as the reference spells it. -/
def mean (y : FVec Ideal S2x32x32x128 .f32) : FVec Ideal S2x32x32x1 .f32 :=
  Host.divf (broadcastInDim S2x32x32x1 ![0, 1, 2] bcast_S2x32x32_S2x32x32x1_0_1_2
    (Host.reduceAdd y (constant S_ .f32 0x00000000#32) reducesTo_S2x32x32x128_S2x32x32_d3 h_S_))
    (broadcastInDim S2x32x32x1 ![] bcast_S_S2x32x32x1 (constant S_ .f32 0x43000000#32))

/-- The layer norm over the features of a patch, as the reference spells it. -/
def layerNorm (y : FVec Ideal S2x32x32x128 .f32) (g b : FVec Ideal S128 .f32) : FVec Ideal S2x32x32x128 .f32 :=
  addf (mulf (Host.divf (subf y (spread (mean y))) (spread (Host.sqrt (addf
    (mean (mulf (subf y (spread (mean y))) (subf y (spread (mean y)))))
    (broadcastInDim S2x32x32x1 ![] bcast_S_S2x32x32x1 (constant S_ .f32 0x3727C5AC#32)))))) (along g)) (along b)

/-- The reference's result is the layer norm of the GELU of the convolution, its patches in one row. -/
theorem result_eq (m : (ℓ : Loc nD τ sig) → Buf (Elt Ideal) ℓ) (c : Dev nD) :
    Value.res_main_v59 m c = shapeCast S2048x128 (layerNorm (gelu (conv
      (patches (waves (pixels (m ((c.tc : Thread nD τ).loc main_arg0)) (m ((c.tc : Thread nD τ).loc main_arg1)))))
      (m ((c.tc : Thread nD τ).loc main_arg2)) (m ((c.tc : Thread nD τ).loc main_arg3))))
      (m ((c.tc : Thread nD τ).loc main_arg4)) (m ((c.tc : Thread nD τ).loc main_arg5))) shapeCasts_S2x32x32x128_S2048x128 := by
  unfold Value.res_main_v59
  rfl

/-- A coordinate of pixel `p`. -/
theorem pixels_apply (A : FVec Ideal S2x2x512x512 .f32) (T : FVec Ideal S2 .f32) (p : Fin 524288) (q : Fin 3) :
    pixels A T (ix2 p q) = if h : q.val < 2 then
      A (ix4 ⟨p / 262144, by omega⟩ ⟨q, h⟩ ⟨p / 512 % 512, by omega⟩ ⟨p % 512, by omega⟩) else T (ix1 ⟨p / 262144, by omega⟩) := by
  pointwise [pixels]

/-- A feature of a coordinate. -/
theorem waves_apply (x : FVec Ideal S524288x3 .f32) (p : Fin 524288) (j : Fin 3) (q : Fin 64) :
    waves x (ix3 p j q) = Cert.Wave.wave q (x (ix2 p j)) := by
  pointwise [waves, angles]
  unfold Cert.Wave.wave Cert.Wave.freq
  have e : ∀ a : Fin 32, S32.rowMajor (ix1 a) = a := fun a => Fin.ext (Shape.rowMajor_val_one _)
  by_cases h : q.val < 32
  · rw [dif_pos h, if_pos h, e]
    congr 4
    exact Fin.ext (Nat.mod_eq_of_lt h).symm
  · rw [dif_neg h, if_neg h, e]
    congr 4
    apply Fin.ext
    show q.val - 32 = q.val % 32
    omega

/-- The patches at a position: channel, row and column of the pixel. -/
theorem patches_apply (e : FVec Ideal S524288x3x64 .f32) (n : Fin 2048) (k : Fin 49152) :
    patches e (ix4 ⟨n / 1024, by omega⟩ ⟨n / 32 % 32, by omega⟩ ⟨n % 32, by omega⟩ k)
      = e (ix3 ⟨n / 1024 * 262144 + (n / 32 % 32 * 16 + k / 16 % 16) * 512 + (n % 32 * 16 + k % 16), by omega⟩
          ⟨k / 256 / 64, by omega⟩ ⟨k / 256 % 64, by omega⟩) := by
  pointwise [patches]

/-- The convolution at a patch and a feature. -/
theorem conv_apply (p : FVec Ideal S2x32x32x49152 .f32) (W : FVec Ideal S128x192x16x16 .f32) (b : FVec Ideal S128 .f32)
    (i : Fin 2) (h w : Fin 32) (d : Fin 128) :
    conv p W b (ix4 i h w d)
      = ∑ k : Fin 49152, p (ix4 i h w k) * W (ix4 d ⟨k / 256, by omega⟩ ⟨k / 16 % 16, by omega⟩ ⟨k % 16, by omega⟩) + b (ix1 d) := by
  pointwise [conv]

/-- The GELU at an index. -/
theorem gelu_apply (z : FVec Ideal S2x32x32x128 .f32) (i : Fin 2) (h w : Fin 32) (d : Fin 128) :
    gelu z (ix4 i h w d) = Cert.Row.act (z (ix4 i h w d)) := by
  pointwise [gelu]
  rw [Cert.Row.sqrt_half]
  rfl

/-- The mean at a patch. -/
theorem mean_apply (y : FVec Ideal S2x32x32x128 .f32) (i : Fin 2) (h w : Fin 32) :
    mean y (ix4 i h w 0) = Cert.Row.mean fun x => y (ix4 i h w x) := by
  pointwise [mean]
  rfl

/-- The layer norm at an index. -/
theorem layerNorm_apply (y : FVec Ideal S2x32x32x128 .f32) (g b : FVec Ideal S128 .f32) (i : Fin 2) (h w : Fin 32) (d : Fin 128) :
    layerNorm y g b (ix4 i h w d) = Cert.Row.norm (fun x => y (ix4 i h w x)) (g (ix1 d)) (b (ix1 d)) d := by
  pointwise [layerNorm]
  simp only [mean_apply]
  pointwise [mean_apply]
  rfl

/-- One product of the convolution. -/
theorem patch_mul (A : FVec Ideal S2x2x512x512 .f32) (T : FVec Ideal S2 .f32) (W : FVec Ideal S128x192x16x16 .f32) (n : Fin 2048)
    (d : Fin 128) (k : Fin 49152) :
    patches (waves (pixels A T)) (ix4 ⟨n / 1024, by omega⟩ ⟨n / 32 % 32, by omega⟩ ⟨n % 32, by omega⟩ k)
        * W (ix4 d ⟨k / 256, by omega⟩ ⟨k / 16 % 16, by omega⟩ ⟨k % 16, by omega⟩)
      = Cert.Times.term A T W n d k := by
  rw [patches_apply, waves_apply, pixels_apply]
  unfold Cert.Times.term
  have e : (⟨(n / 1024 * 262144 + (n / 32 % 32 * 16 + k / 16 % 16) * 512 + (n % 32 * 16 + k % 16)) / 262144, by omega⟩ : Fin 2)
      = ⟨n / 1024, by omega⟩ := by
    apply Fin.ext
    simp only
    omega
  have e1 : (⟨(n / 1024 * 262144 + (n / 32 % 32 * 16 + k / 16 % 16) * 512 + (n % 32 * 16 + k % 16)) / 512 % 512, by omega⟩ : Fin 512)
      = ⟨n / 32 % 32 * 16 + k / 16 % 16, by omega⟩ := by
    apply Fin.ext
    simp only
    omega
  have e2 : (⟨(n / 1024 * 262144 + (n / 32 % 32 * 16 + k / 16 % 16) * 512 + (n % 32 * 16 + k % 16)) % 512, by omega⟩ : Fin 512)
      = ⟨n % 32 * 16 + k % 16, by omega⟩ := by
    apply Fin.ext
    simp only
    omega
  rw [e, e1, e2]

/-- The reference's result at patch `n` and feature `d`. -/
theorem result_apply (m : (ℓ : Loc nD τ sig) → Buf (Elt Ideal) ℓ) (c : Dev nD) (n : Fin 2048) (d : Fin 128) :
    Value.res_main_v59 m c (ix2 n d) = Cert.Row.row
      (fun l => Cert.Times.byPixel (m ((c.tc : Thread nD τ).loc main_arg0)) (m ((c.tc : Thread nD τ).loc main_arg1))
          (m ((c.tc : Thread nD τ).loc main_arg2)) n l + m ((c.tc : Thread nD τ).loc main_arg3) (ix1 l))
      (m ((c.tc : Thread nD τ).loc main_arg4) (ix1 d)) (m ((c.tc : Thread nD τ).loc main_arg5) (ix1 d)) d := by
  rw [result_eq]
  pointwise []
  rw [layerNorm_apply]
  simp only [gelu_apply, conv_apply, patch_mul]
  rfl

end Cert.CoordsRefIdeal.RefValue

end
-- ==== Proof.CoordsClaim.lean ====
/-
  THE CLAIM of the second embedding: where the times and the time's weights are finite, the kernel's result is the
  reference's, element by element, over the extended reals.
-/
module

public import proofs.«01_k».proof.Defs
public import proofs.«01_k».proof.Proof.CoordsArray
public import proofs.«01_k».proof.Proof.CoordsReference

@[expose] public section

noncomputable section

namespace Cert.CoordsClaim

open Idealize.ShloMosaic Idealize.ShloMosaic.TcCoe Idealize.SL.Sem

/-- An extended real of absolute value below infinity is a real number. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- What the precondition says of the times. -/
theorem times_real [Cert.Pre_finite_times_and_time_weights.Facts] (m : (ℓ : Loc Cert.CoordsIdeal.nD Cert.CoordsIdeal.τ Cert.CoordsIdeal.sig) → Buf (Elt Ideal) ℓ)
    (hpre : Cert.Pre_CoordsIdeal_finite_times_and_time_weights m) (c : Dev Cert.CoordsIdeal.nD) (b : Fin 2) :
    ∃ r : ℝ, (m ((c.tc : Thread Cert.CoordsIdeal.nD Cert.CoordsIdeal.τ).loc Cert.CoordsIdeal.main_arg1) : Cert.Times.Moments) (ix1 b) = (r : EReal) := by
  have h := congrFun (hpre c).1 (ix1 b)
  exact real_of_abs_lt _ h

/-- What the precondition says of the time's weights. -/
theorem weights_real [Cert.Pre_finite_times_and_time_weights.Facts] (m : (ℓ : Loc Cert.CoordsIdeal.nD Cert.CoordsIdeal.τ Cert.CoordsIdeal.sig) → Buf (Elt Ideal) ℓ)
    (hpre : Cert.Pre_CoordsIdeal_finite_times_and_time_weights m) (c : Dev Cert.CoordsIdeal.nD) (d : Fin 128) (q : Fin 64)
    (i j : Fin 16) :
    ∃ r : ℝ, (m ((c.tc : Thread Cert.CoordsIdeal.nD Cert.CoordsIdeal.τ).loc Cert.CoordsIdeal.main_arg2) : Cert.Times.Weights)
      (ix4 d ⟨128 + q, by omega⟩ i j) = (r : EReal) := by
  have h := congrFun (hpre c).2 (ix4 d q i j)
  unfold Cert.Pre_finite_times_and_time_weights.fn at h
  simp only at h
  refine real_of_abs_lt _ (Eq.trans ?_ h)
  pointwise
  rfl

/-- The reference's result at patch `n` and feature `d`, from arguments that agree with the kernel's. -/
theorem reference_at [Cert.Pre_finite_times_and_time_weights.Facts] (m : (ℓ : Loc Cert.CoordsIdeal.nD Cert.CoordsIdeal.τ Cert.CoordsIdeal.sig) → Buf (Elt Ideal) ℓ)
    (m' : (ℓ : Loc Cert.CoordsRefIdeal.nD Cert.CoordsRefIdeal.τ Cert.CoordsRefIdeal.sig) → Buf (Elt Ideal) ℓ)
    (hpre : Cert.Pre_CoordsIdeal_finite_times_and_time_weights m) (c : Dev Cert.CoordsIdeal.nD)
    (h0 : m' ((c.tc : Thread Cert.CoordsRefIdeal.nD Cert.CoordsRefIdeal.τ).loc Cert.CoordsRefIdeal.main_arg0)
      = m ((c.tc : Thread Cert.CoordsIdeal.nD Cert.CoordsIdeal.τ).loc Cert.CoordsIdeal.main_arg0))
    (h1 : m' ((c.tc : Thread Cert.CoordsRefIdeal.nD Cert.CoordsRefIdeal.τ).loc Cert.CoordsRefIdeal.main_arg1)
      = m ((c.tc : Thread Cert.CoordsIdeal.nD Cert.CoordsIdeal.τ).loc Cert.CoordsIdeal.main_arg1))
    (h2 : m' ((c.tc : Thread Cert.CoordsRefIdeal.nD Cert.CoordsRefIdeal.τ).loc Cert.CoordsRefIdeal.main_arg2)
      = m ((c.tc : Thread Cert.CoordsIdeal.nD Cert.CoordsIdeal.τ).loc Cert.CoordsIdeal.main_arg2))
    (h3 : m' ((c.tc : Thread Cert.CoordsRefIdeal.nD Cert.CoordsRefIdeal.τ).loc Cert.CoordsRefIdeal.main_arg3)
      = m ((c.tc : Thread Cert.CoordsIdeal.nD Cert.CoordsIdeal.τ).loc Cert.CoordsIdeal.main_arg3))
    (h4 : m' ((c.tc : Thread Cert.CoordsRefIdeal.nD Cert.CoordsRefIdeal.τ).loc Cert.CoordsRefIdeal.main_arg4)
      = m ((c.tc : Thread Cert.CoordsIdeal.nD Cert.CoordsIdeal.τ).loc Cert.CoordsIdeal.main_arg4))
    (h5 : m' ((c.tc : Thread Cert.CoordsRefIdeal.nD Cert.CoordsRefIdeal.τ).loc Cert.CoordsRefIdeal.main_arg5)
      = m ((c.tc : Thread Cert.CoordsIdeal.nD Cert.CoordsIdeal.τ).loc Cert.CoordsIdeal.main_arg5)) (n : Fin 2048) (d : Fin 128) :
    Cert.CoordsRefIdeal.Value.res_main_v59 m' c (ix2 n d) = Cert.CoordsIdeal.RefValue.embedding m c n d := by
  have e := fun l => Cert.Times.byPixel_eq (m ((c.tc : Thread Cert.CoordsIdeal.nD Cert.CoordsIdeal.τ).loc Cert.CoordsIdeal.main_arg0))
    _ _ (times_real m hpre c) (weights_real m hpre c) n l
  rw [Cert.CoordsRefIdeal.RefValue.result_apply, h0, h1, h2, h3, h4, h5]
  simp only [e]
  rfl

/-- The reference's result, from arguments that agree with the kernel's, is the embedding. -/
theorem reference_eq [Cert.Pre_finite_times_and_time_weights.Facts] (m : (ℓ : Loc Cert.CoordsIdeal.nD Cert.CoordsIdeal.τ Cert.CoordsIdeal.sig) → Buf (Elt Ideal) ℓ)
    (m' : (ℓ : Loc Cert.CoordsRefIdeal.nD Cert.CoordsRefIdeal.τ Cert.CoordsRefIdeal.sig) → Buf (Elt Ideal) ℓ)
    (hpre : Cert.Pre_CoordsIdeal_finite_times_and_time_weights m) (c : Dev Cert.CoordsIdeal.nD)
    (h0 : m' ((c.tc : Thread Cert.CoordsRefIdeal.nD Cert.CoordsRefIdeal.τ).loc Cert.CoordsRefIdeal.main_arg0)
      = m ((c.tc : Thread Cert.CoordsIdeal.nD Cert.CoordsIdeal.τ).loc Cert.CoordsIdeal.main_arg0))
    (h1 : m' ((c.tc : Thread Cert.CoordsRefIdeal.nD Cert.CoordsRefIdeal.τ).loc Cert.CoordsRefIdeal.main_arg1)
      = m ((c.tc : Thread Cert.CoordsIdeal.nD Cert.CoordsIdeal.τ).loc Cert.CoordsIdeal.main_arg1))
    (h2 : m' ((c.tc : Thread Cert.CoordsRefIdeal.nD Cert.CoordsRefIdeal.τ).loc Cert.CoordsRefIdeal.main_arg2)
      = m ((c.tc : Thread Cert.CoordsIdeal.nD Cert.CoordsIdeal.τ).loc Cert.CoordsIdeal.main_arg2))
    (h3 : m' ((c.tc : Thread Cert.CoordsRefIdeal.nD Cert.CoordsRefIdeal.τ).loc Cert.CoordsRefIdeal.main_arg3)
      = m ((c.tc : Thread Cert.CoordsIdeal.nD Cert.CoordsIdeal.τ).loc Cert.CoordsIdeal.main_arg3))
    (h4 : m' ((c.tc : Thread Cert.CoordsRefIdeal.nD Cert.CoordsRefIdeal.τ).loc Cert.CoordsRefIdeal.main_arg4)
      = m ((c.tc : Thread Cert.CoordsIdeal.nD Cert.CoordsIdeal.τ).loc Cert.CoordsIdeal.main_arg4))
    (h5 : m' ((c.tc : Thread Cert.CoordsRefIdeal.nD Cert.CoordsRefIdeal.τ).loc Cert.CoordsRefIdeal.main_arg5)
      = m ((c.tc : Thread Cert.CoordsIdeal.nD Cert.CoordsIdeal.τ).loc Cert.CoordsIdeal.main_arg5)) :
    Cert.CoordsRefIdeal.Value.res_main_v59 m' c = Cert.CoordsIdeal.RefValue.result m c := by
  funext i
  exact (congrArg (Cert.CoordsRefIdeal.Value.res_main_v59 m' c) (eq_ix2 i)).trans
    (reference_at m m' hpre c h0 h1 h2 h3 h4 h5 (i 0) (i 1))

/-- From memories that agree on the arguments the kernel and the reference end with one result, the arguments unchanged. -/
theorem algebraic [Cert.Pre_finite_times_and_time_weights.Facts] :
    Cert.algebraic_CoordsIdeal_CoordsRefIdeal_pre_finite_times_and_time_weights := by
  intro m ρ m' ρ' hpre hagree
  refine ⟨fun c => Cert.CoordsIdeal.RefValue.result m c, Cert.CoordsIdeal.RefValue.run m ρ, ?_⟩
  refine (θ_run Cert.CoordsRefIdeal.defs _ _).mono (fun _ h c => ⟨(h c).1.trans ?_, (h c).2⟩)
    (Cert.CoordsRefIdeal.Value.run (F := Ideal) m' ρ')
  obtain ⟨h0, h1, h2, h3, h4, h5⟩ := hagree c
  exact reference_eq m m' hpre c h0 h1 h2 h3 h4 h5

end Cert.CoordsClaim

end
-- ==== Proof.lean ====
/-
  THE CERTIFICATE: the claims of the two patch embeddings, put together.
-/
module

public import proofs.«01_k».proof.Defs
public import proofs.«01_k».proof.Proof.ValuesClaim
public import proofs.«01_k».proof.Proof.CoordsFrames
public import proofs.«01_k».proof.Proof.CoordsClaim

@[expose] public section

noncomputable section

namespace Cert.Proof

/-- Every claim of the certificate. -/
theorem claim : Cert.Claim :=
  have hpre : Cert.Pre_finite_times_and_time_weights.Facts := Cert.CoordsFrames.precondition_facts
  ⟨Cert.Values.Gen.facts, Cert.ValuesIdeal.Gen.facts, Cert.ValuesRefIdeal.Gen.facts, Cert.Coords.Gen.facts,
    Cert.CoordsIdeal.Gen.facts, Cert.CoordsRefIdeal.Gen.facts, hpre,
    Cert.ValuesClaim.frame, Cert.ValuesClaim.frame_ideal, Cert.ValuesClaim.frame_reference,
    Cert.CoordsFrames.frame, Cert.CoordsFrames.frame_ideal, Cert.CoordsFrames.frame_ideal_pre,
    Cert.CoordsFrames.frame_reference, Cert.CoordsFrames.frame_reference_pre,
    Cert.ValuesClaim.preserves, Cert.ValuesClaim.algebraic, Cert.CoordsFrames.preserves, Cert.CoordsClaim.algebraic⟩

end Cert.Proof

end
